-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x3060 : Shape := ⟨2, ![1024, 3060]⟩
abbrev S1024x85x20 : Shape := ⟨3, ![1024, 85, 20]⟩
abbrev S3060x1024 : Shape := ⟨2, ![3060, 1024]⟩
abbrev S1024 : Shape := ⟨1, ![1024]⟩
abbrev S1024x1024 : Shape := ⟨2, ![1024, 1024]⟩
abbrev S1044x1024 : Shape := ⟨2, ![1044, 1024]⟩
abbrev S1024x27 : Shape := ⟨2, ![1024, 27]⟩
abbrev S27 : Shape := ⟨1, ![27]⟩
abbrev S1x1024 : Shape := ⟨2, ![1, 1024]⟩
abbrev S256x3060 : Shape := ⟨2, ![256, 3060]⟩
abbrev S256x1024 : Shape := ⟨2, ![256, 1024]⟩
abbrev S256x20 : Shape := ⟨2, ![256, 20]⟩
abbrev S256x1044 : Shape := ⟨2, ![256, 1044]⟩
abbrev S85x1024x20 : Shape := ⟨3, ![85, 1024, 20]⟩
abbrev S1x27 : Shape := ⟨2, ![1, 27]⟩
abbrev S_ : Shape := ⟨0, ![]⟩
abbrev S1024x1 : Shape := ⟨2, ![1024, 1]⟩
abbrev S42x1024x27 : Shape := ⟨3, ![42, 1024, 27]⟩
abbrev S6x512x20 : Shape := ⟨3, ![6, 512, 20]⟩
abbrev S512x1024 : Shape := ⟨2, ![512, 1024]⟩
abbrev S512x1 : Shape := ⟨2, ![512, 1]⟩
abbrev S6x512x27 : Shape := ⟨3, ![6, 512, 27]⟩
abbrev S1x512x20 : Shape := ⟨3, ![1, 512, 20]⟩
abbrev S512x20 : Shape := ⟨2, ![512, 20]⟩
abbrev S20x1024 : Shape := ⟨2, ![20, 1024]⟩
abbrev S512x19 : Shape := ⟨2, ![512, 19]⟩
abbrev S512x27 : Shape := ⟨2, ![512, 27]⟩
abbrev S1x512x27 : Shape := ⟨3, ![1, 512, 27]⟩
abbrev S1024x42x27 : Shape := ⟨3, ![1024, 42, 27]⟩
abbrev S1024x84x27 : Shape := ⟨3, ![1024, 84, 27]⟩

abbrev nBuf : Space → Nat
  | .hbm => 25
  | .vmem => 38
  | .smem => 0
  | _ => 0

abbrev bufTy : (tb : Table) → Fin (tcTables nBuf tb) → BufTy
  | .hbm, ⟨0, _⟩ => ⟨S1024x3060, .f32⟩
  | .hbm, ⟨1, _⟩ => ⟨S1024x85x20, .f32⟩
  | .hbm, ⟨2, _⟩ => ⟨S3060x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1044x1024, .f32⟩
  | .hbm, ⟨7, _⟩ => ⟨S1024, .f32⟩
  | .hbm, ⟨8, _⟩ => ⟨S1024x27, .f32⟩
  | .hbm, ⟨9, _⟩ => ⟨S27, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1024x1024, .f32⟩
  | .hbm, ⟨14, _⟩ => ⟨S85x1024x20, .f32⟩
  | .hbm, ⟨15, _⟩ => ⟨S1x27, .f32⟩
  | .hbm, ⟨16, _⟩ => ⟨S_, .bf16⟩
  | .hbm, ⟨17, _⟩ => ⟨S1024x1, .bf16⟩
  | .hbm, ⟨18, _⟩ => ⟨S42x1024x27, .f32⟩
  | .hbm, ⟨19, _⟩ => ⟨S1024x1, .bf16⟩
  | .hbm, ⟨20, _⟩ => ⟨S42x1024x27, .f32⟩
  | .hbm, ⟨21, _⟩ => ⟨S1024x1, .bf16⟩
  | .hbm, ⟨22, _⟩ => ⟨S1024x42x27, .f32⟩
  | .hbm, ⟨23, _⟩ => ⟨S1024x42x27, .f32⟩
  | .hbm, ⟨24, _⟩ => ⟨S1024x84x27, .f32⟩
  | .local _ .vmem, ⟨0, _⟩ => ⟨S256x3060, .f32⟩
  | .local _ .vmem, ⟨1, _⟩ => ⟨S256x3060, .f32⟩
  | .local _ .vmem, ⟨2, _⟩ => ⟨S3060x1024, .f32⟩
  | .local _ .vmem, ⟨3, _⟩ => ⟨S1x1024, .f32⟩
  | .local _ .vmem, ⟨4, _⟩ => ⟨S1024x1024, .f32⟩
  | .local _ .vmem, ⟨5, _⟩ => ⟨S1x1024, .f32⟩
  | .local _ .vmem, ⟨6, _⟩ => ⟨S1044x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S6x512x20, .f32⟩
  | .local _ .vmem, ⟨11, _⟩ => ⟨S6x512x20, .f32⟩
  | .local _ .vmem, ⟨12, _⟩ => ⟨S512x1024, .f32⟩
  | .local _ .vmem, ⟨13, _⟩ => ⟨S512x1024, .f32⟩
  | .local _ .vmem, ⟨14, _⟩ => ⟨S1044x1024, .f32⟩
  | .local _ .vmem, ⟨15, _⟩ => ⟨S1024x27, .f32⟩
  | .local _ .vmem, ⟨16, _⟩ => ⟨S1x27, .f32⟩
  | .local _ .vmem, ⟨17, _⟩ => ⟨S512x1, .bf16⟩
  | .local _ .vmem, ⟨18, _⟩ => ⟨S512x1, .bf16⟩
  | .local _ .vmem, ⟨19, _⟩ => ⟨S6x512x27, .f32⟩
  | .local _ .vmem, ⟨20, _⟩ => ⟨S6x512x27, .f32⟩
  | .local _ .vmem, ⟨21, _⟩ => ⟨S512x1, .bf16⟩
  | .local _ .vmem, ⟨22, _⟩ => ⟨S512x1, .bf16⟩
  | .local _ .vmem, ⟨23, _⟩ => ⟨S512x1, .bf16⟩
  | .local _ .vmem, ⟨24, _⟩ => ⟨S6x512x20, .f32⟩
  | .local _ .vmem, ⟨25, _⟩ => ⟨S6x512x20, .f32⟩
  | .local _ .vmem, ⟨26, _⟩ => ⟨S512x1024, .f32⟩
  | .local _ .vmem, ⟨27, _⟩ => ⟨S512x1024, .f32⟩
  | .local _ .vmem, ⟨28, _⟩ => ⟨S1044x1024, .f32⟩
  | .local _ .vmem, ⟨29, _⟩ => ⟨S1024x27, .f32⟩
  | .local _ .vmem, ⟨30, _⟩ => ⟨S1x27, .f32⟩
  | .local _ .vmem, ⟨31, _⟩ => ⟨S512x1, .bf16⟩
  | .local _ .vmem, ⟨32, _⟩ => ⟨S512x1, .bf16⟩
  | .local _ .vmem, ⟨33, _⟩ => ⟨S6x512x27, .f32⟩
  | .local _ .vmem, ⟨34, _⟩ => ⟨S6x512x27, .f32⟩
  | .local _ .vmem, ⟨35, _⟩ => ⟨S512x1, .bf16⟩
  | .local _ .vmem, ⟨36, _⟩ => ⟨S512x1, .bf16⟩
  | .local _ .vmem, ⟨37, _⟩ => ⟨S512x1, .bf16⟩
  | _, _ => ⟨S1024x3060, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v8_0 : Ref sig .tc := ⟨.hbm, 20, rfl⟩
abbrev main_v8_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg7_1 : Ref sig .tc := ⟨.vmem, 22, rfl⟩
abbrev cc1_scratch0 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg5_1 : Ref sig .tc := ⟨.vmem, 32, rfl⟩
abbrev cc2_stg6_0 : Ref sig .tc := ⟨.vmem, 33, rfl⟩
abbrev cc2_stg6_1 : Ref sig .tc := ⟨.vmem, 34, rfl⟩
abbrev cc2_stg7_0 : Ref sig .tc := ⟨.vmem, 35, rfl⟩
abbrev cc2_stg7_1 : Ref sig .tc := ⟨.vmem, 36, rfl⟩
abbrev cc2_scratch0 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc1_sem6_0 : DmaSem sig := 19
abbrev cc1_sem6_1 : DmaSem sig := 20
abbrev cc1_sem7_0 : DmaSem sig := 21
abbrev cc1_sem7_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem5_1 : DmaSem sig := 31
abbrev cc2_sem6_0 : DmaSem sig := 32
abbrev cc2_sem6_1 : DmaSem sig := 33
abbrev cc2_sem7_0 : DmaSem sig := 34
abbrev cc2_sem7_1 : DmaSem sig := 35

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3060 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3060x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1044x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![2, 7], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, arg0.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S6x512x20 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S1044x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1024x27 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x27 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S512x1 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S6x512x27 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S512x1 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev grid2 : Pipeline.Grid := ⟨2, ![2, 7], ![false, false]⟩

def cc2_transform_0 (i : grid2.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.addi arg1 c7_i32
  let c0_i32 : BitVec 32 := 0#32
  let c0_i32_0 : BitVec 32 := 0#32
  ![v0.toNat, arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S6x512x20 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 1 → Memref sig .tc .vmem S1044x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1024x27 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x27 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S512x1 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S6x512x27 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S512x1 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]
-- ==== ReferenceIdeal.lean ====
abbrev S1024x3060 : Shape := ⟨2, ![1024, 3060]⟩
abbrev S1024x85x20 : Shape := ⟨3, ![1024, 85, 20]⟩
abbrev S3060x1024 : Shape := ⟨2, ![3060, 1024]⟩
abbrev S1024 : Shape := ⟨1, ![1024]⟩
abbrev S1024x1024 : Shape := ⟨2, ![1024, 1024]⟩
abbrev S1044x1024 : Shape := ⟨2, ![1044, 1024]⟩
abbrev S1024x27 : Shape := ⟨2, ![1024, 27]⟩
abbrev S27 : Shape := ⟨1, ![27]⟩
abbrev S1x1024 : Shape := ⟨2, ![1, 1024]⟩
abbrev S_ : Shape := ⟨0, ![]⟩
abbrev S1024x1x20 : Shape := ⟨3, ![1024, 1, 20]⟩
abbrev S1024x20 : Shape := ⟨2, ![1024, 20]⟩
abbrev S1024x1044 : Shape := ⟨2, ![1024, 1044]⟩
abbrev S1x27 : Shape := ⟨2, ![1, 27]⟩
abbrev S1024x83x20 : Shape := ⟨3, ![1024, 83, 20]⟩
abbrev S83x1024x20 : Shape := ⟨3, ![83, 1024, 20]⟩
abbrev S1024x1 : Shape := ⟨2, ![1024, 1]⟩
abbrev S83x1024x27 : Shape := ⟨3, ![83, 1024, 27]⟩
abbrev S1x1024x20 : Shape := ⟨3, ![1, 1024, 20]⟩
abbrev S1024x19 : Shape := ⟨2, ![1024, 19]⟩
abbrev S1x1024x27 : Shape := ⟨3, ![1, 1024, 27]⟩
abbrev S84x1024x27 : Shape := ⟨3, ![84, 1024, 27]⟩
abbrev S1024x84x27 : Shape := ⟨3, ![1024, 84, 27]⟩

abbrev nBuf : Space → Nat
  | .hbm => 83
  | .vmem => 0
  | .smem => 0
  | _ => 0

abbrev bufTy : (tb : Table) → Fin (tcTables nBuf tb) → BufTy
  | .hbm, ⟨0, _⟩ => ⟨S1024x3060, .f32⟩
  | .hbm, ⟨1, _⟩ => ⟨S1024x85x20, .f32⟩
  | .hbm, ⟨2, _⟩ => ⟨S3060x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1044x1024, .f32⟩
  | .hbm, ⟨7, _⟩ => ⟨S1024, .f32⟩
  | .hbm, ⟨8, _⟩ => ⟨S1024x27, .f32⟩
  | .hbm, ⟨9, _⟩ => ⟨S27, .f32⟩
  | .hbm, ⟨10, _⟩ => ⟨S1024x1024, .f32⟩
  | .hbm, ⟨11, _⟩ => ⟨S1x1024, .f32⟩
  | .hbm, ⟨12, _⟩ => ⟨S1024x1024, .f32⟩
  | .hbm, ⟨13, _⟩ => ⟨S1024x1024, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1x1024, .f32⟩
  | .hbm, ⟨19, _⟩ => ⟨S1024x1024, .f32⟩
  | .hbm, ⟨20, _⟩ => ⟨S1024x1024, .f32⟩
  | .hbm, ⟨21, _⟩ => ⟨S1024x1x20, .f32⟩
  | .hbm, ⟨22, _⟩ => ⟨S1024x20, .f32⟩
  | .hbm, ⟨23, _⟩ => ⟨S1024x1044, .f32⟩
  | .hbm, ⟨24, _⟩ => ⟨S1024x1024, .f32⟩
  | .hbm, ⟨25, _⟩ => ⟨S1x1024, .f32⟩
  | .hbm, ⟨26, _⟩ => ⟨S1024x1024, .f32⟩
  | .hbm, ⟨27, _⟩ => ⟨S1024x1024, .f32⟩
  | .hbm, ⟨28, _⟩ => ⟨S_, .f32⟩
  | .hbm, ⟨29, _⟩ => ⟨S1024x1024, .f32⟩
  | .hbm, ⟨30, _⟩ => ⟨S1024x1024, .f32⟩
  | .hbm, ⟨31, _⟩ => ⟨S1024x27, .f32⟩
  | .hbm, ⟨32, _⟩ => ⟨S1x27, .f32⟩
  | .hbm, ⟨33, _⟩ => ⟨S1024x27, .f32⟩
  | .hbm, ⟨34, _⟩ => ⟨S1024x27, .f32⟩
  | .hbm, ⟨35, _⟩ => ⟨S1024x83x20, .f32⟩
  | .hbm, ⟨36, _⟩ => ⟨S83x1024x20, .f32⟩
  | .hbm, ⟨37, _⟩ => ⟨S1024x1, .f32⟩
  | .hbm, ⟨38, _⟩ => ⟨S1024, .f32⟩
  | .hbm, ⟨39, _⟩ => ⟨S_, .f32⟩
  | .hbm, ⟨40, _⟩ => ⟨S83x1024x27, .f32⟩
  | .hbm, ⟨41, _⟩ => ⟨S_, .i32⟩
  | .hbm, ⟨42, _⟩ => ⟨S83x1024x20, .f32⟩
  | .hbm, ⟨43, _⟩ => ⟨S1024x1024, .f32⟩
  | .hbm, ⟨44, _⟩ => ⟨S1044x1024, .f32⟩
  | .hbm, ⟨45, _⟩ => ⟨S1024, .f32⟩
  | .hbm, ⟨46, _⟩ => ⟨S1024x27, .f32⟩
  | .hbm, ⟨47, _⟩ => ⟨S27, .f32⟩
  | .hbm, ⟨48, _⟩ => ⟨S_, .i32⟩
  | .hbm, ⟨49, _⟩ => ⟨S1024, .f32⟩
  | .hbm, ⟨50, _⟩ => ⟨S83x1024x27, .f32⟩
  | .hbm, ⟨51, _⟩ => ⟨S_, .i32⟩
  | .hbm, ⟨52, _⟩ => ⟨S_, .i1⟩
  | .hbm, ⟨53, _⟩ => ⟨S_, .i32⟩
  | .hbm, ⟨54, _⟩ => ⟨S_, .i32⟩
  | .hbm, ⟨55, _⟩ => ⟨S1x1024x20, .f32⟩
  | .hbm, ⟨56, _⟩ => ⟨S1024x20, .f32⟩
  | .hbm, ⟨57, _⟩ => ⟨S1024x1, .f32⟩
  | .hbm, ⟨58, _⟩ => ⟨S1024x19, .f32⟩
  | .hbm, ⟨59, _⟩ => ⟨S1024x20, .f32⟩
  | .hbm, ⟨60, _⟩ => ⟨S1024x1044, .f32⟩
  | .hbm, ⟨61, _⟩ => ⟨S1024x1024, .f32⟩
  | .hbm, ⟨62, _⟩ => ⟨S1x1024, .f32⟩
  | .hbm, ⟨63, _⟩ => ⟨S1024x1024, .f32⟩
  | .hbm, ⟨64, _⟩ => ⟨S1024x1024, .f32⟩
  | .hbm, ⟨65, _⟩ => ⟨S_, .f32⟩
  | .hbm, ⟨66, _⟩ => ⟨S1024x1024, .f32⟩
  | .hbm, ⟨67, _⟩ => ⟨S1024x1024, .f32⟩
  | .hbm, ⟨68, _⟩ => ⟨S1024x27, .f32⟩
  | .hbm, ⟨69, _⟩ => ⟨S1x27, .f32⟩
  | .hbm, ⟨70, _⟩ => ⟨S1024x27, .f32⟩
  | .hbm, ⟨71, _⟩ => ⟨S1024x27, .f32⟩
  | .hbm, ⟨72, _⟩ => ⟨S1024x1, .f32⟩
  | .hbm, ⟨73, _⟩ => ⟨S1024, .f32⟩
  | .hbm, ⟨74, _⟩ => ⟨S1x1024x27, .f32⟩
  | .hbm, ⟨75, _⟩ => ⟨S_, .i32⟩
  | .hbm, ⟨76, _⟩ => ⟨S_, .i32⟩
  | .hbm, ⟨77, _⟩ => ⟨S83x1024x27, .f32⟩
  | .hbm, ⟨78, _⟩ => ⟨S_, .i32⟩
  | .hbm, ⟨79, _⟩ => ⟨S_, .i32⟩
  | .hbm, ⟨80, _⟩ => ⟨S1x1024x27, .f32⟩
  | .hbm, ⟨81, _⟩ => ⟨S84x1024x27, .f32⟩
  | .hbm, ⟨82, _⟩ => ⟨S1024x84x27, .f32⟩
  | _, _ => ⟨S1024x3060, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_1 : Ref sig .tc := ⟨.hbm, 39, rfl⟩
abbrev main_v27 : Ref sig .tc := ⟨.hbm, 40, rfl⟩
abbrev main_c : Ref sig .tc := ⟨.hbm, 41, rfl⟩
abbrev main_v28_0 : Ref sig .tc := ⟨.hbm, 42, rfl⟩
abbrev main_v28_1 : Ref sig .tc := ⟨.hbm, 43, rfl⟩
abbrev main_v28_2 : Ref sig .tc := ⟨.hbm, 44, rfl⟩
abbrev main_v28_3 : Ref sig .tc := ⟨.hbm, 45, rfl⟩
abbrev main_v28_4 : Ref sig .tc := ⟨.hbm, 46, rfl⟩
abbrev main_v28_5 : Ref sig .tc := ⟨.hbm, 47, rfl⟩
abbrev main_v28_6 : Ref sig .tc := ⟨.hbm, 48, rfl⟩
abbrev main_v28_7 : Ref sig .tc := ⟨.hbm, 49, rfl⟩
abbrev main_v28_8 : Ref sig .tc := ⟨.hbm, 50, rfl⟩
abbrev main_while0c_c_10 : Ref sig .tc := ⟨.hbm, 51, rfl⟩
abbrev main_while0c_v32 : Ref sig .tc := ⟨.hbm, 52, rfl⟩
abbrev main_while0b_call0_c : Ref sig .tc := ⟨.hbm, 53, rfl⟩
abbrev main_while0b_call0_c_0 : Ref sig .tc := ⟨.hbm, 54, rfl⟩
abbrev main_while0b_call0_v0 : Ref sig .tc := ⟨.hbm, 55, rfl⟩
abbrev main_while0b_v32 : Ref sig .tc := ⟨.hbm, 56, rfl⟩
abbrev main_while0b_v33 : Ref sig .tc := ⟨.hbm, 57, rfl⟩
abbrev main_while0b_v34 : Ref sig .tc := ⟨.hbm, 58, rfl⟩
abbrev main_while0b_v35 : Ref sig .tc := ⟨.hbm, 59, rfl⟩
abbrev main_while0b_v36 : Ref sig .tc := ⟨.hbm, 60, rfl⟩
abbrev main_while0b_v37 : Ref sig .tc := ⟨.hbm, 61, rfl⟩
abbrev main_while0b_v38 : Ref sig .tc := ⟨.hbm, 62, rfl⟩
abbrev main_while0b_v39 : Ref sig .tc := ⟨.hbm, 63, rfl⟩
abbrev main_while0b_v40 : Ref sig .tc := ⟨.hbm, 64, rfl⟩
abbrev main_while0b_cst_10 : Ref sig .tc := ⟨.hbm, 65, rfl⟩
abbrev main_while0b_v41 : Ref sig .tc := ⟨.hbm, 66, rfl⟩
abbrev main_while0b_v42 : Ref sig .tc := ⟨.hbm, 67, rfl⟩
abbrev main_while0b_v43 : Ref sig .tc := ⟨.hbm, 68, rfl⟩
abbrev main_while0b_v44 : Ref sig .tc := ⟨.hbm, 69, rfl⟩
abbrev main_while0b_v45 : Ref sig .tc := ⟨.hbm, 70, rfl⟩
abbrev main_while0b_v46 : Ref sig .tc := ⟨.hbm, 71, rfl⟩
abbrev main_while0b_v47 : Ref sig .tc := ⟨.hbm, 72, rfl⟩
abbrev main_while0b_v48 : Ref sig .tc := ⟨.hbm, 73, rfl⟩
abbrev main_while0b_call1_v0 : Ref sig .tc := ⟨.hbm, 74, rfl⟩
abbrev main_while0b_call1_c : Ref sig .tc := ⟨.hbm, 75, rfl⟩
abbrev main_while0b_call1_c_0 : Ref sig .tc := ⟨.hbm, 76, rfl⟩
abbrev main_while0b_v49 : Ref sig .tc := ⟨.hbm, 77, rfl⟩
abbrev main_while0b_c_11 : Ref sig .tc := ⟨.hbm, 78, rfl⟩
abbrev main_while0b_v50 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩

abbrev nD : Nat := 1
abbrev τ : Topo := Topo.v7x

variable {F : FTy → Type} [FloatOps F]

abbrev main_while0_count : Scf.Loop 32 := ⟨0#32, 83#32, 1#32⟩
-- ==== Proof.Steps.lean ====
/- The walk's steps on one tile of rows, as functions of the tile's operands: what one step scores, what it hands to the
   next step, and what a chunk of six steps leaves. The statements are at any interpretation `F` of the float types. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.Pipeline.ValueKit
public import Idealize.ShloMosaic.Lib.Pipeline.ValueKit.Stack
public import Idealize.ShloMosaic.Lib.Ring
public import Idealize.ShloMosaic.Lib.Tactic
public import Idealize.ShloMosaic.Lib.WordCmp

@[expose] public section

set_option maxRecDepth 16384

noncomputable section

namespace Cert.Walk

open Idealize.ShloMosaic Idealize.ShloMosaic.TcCoe
open Cert.KernelIdeal Cert.KernelIdeal.Gen

variable {F : FTy → Type} [FloatOps F]

/-! ## The rectangles the bodies read and write -/

/-- The six input rows of a chunk lie in its block. -/
theorem inbX (s : Fin 6) : ∀ a, (![s.val, 0, 0] : Fin 3 → ℕ) a + S1x512x20.size a ≤ S6x512x20.size a := by
  have hs := s.isLt
  intro a; fin_cases a
  · show s.val + 1 ≤ 6; omega
  · show 0 + 512 ≤ 512; omega
  · show 0 + 20 ≤ 20; omega

/-- Row `s` of a chunk's input block. -/
def slab (x0 : Vec F S6x512x20 .f32) (s : Fin 6) : Vec F S1x512x20 .f32 :=
  View.ld x0 (Rect.unit (s := S6x512x20) ![s.val, 0, 0] S1x512x20.size (inbX s))

abbrev rW1 : Rect S1044x1024 := Rect.unit (s := S1044x1024) ![0, 0] S20x1024.size inb_S1044x1024_S20x1024_0_0
abbrev rW2 : Rect S1024x27 := Rect.unit (s := S1024x27) ![0, 0] S1024x27.size inb_S1024x27_S1024x27_0_0
abbrev rBase : Rect S512x1024 := Rect.unit (s := S512x1024) ![0, 0] S512x1024.size inb_S512x1024_S512x1024_0_0
abbrev rB2 : Rect S1x27 := Rect.unit (s := S1x27) ![0, 0] S1x27.size inb_S1x27_S1x27_0_0
abbrev rPrev : Rect S512x1 := Rect.unit (s := S512x1) ![0, 0] S512x1.size inb_S512x1_S512x1_0_0

/-! ## One step, and six of them -/

/-- One step's scores: from the score `prev` the step before handed over and the step's input row `xt`. -/
def scores (x1 : Vec F S512x1024 .f32) (x2 : Vec F S1044x1024 .f32) (x3 : Vec F S1024x27 .f32) (x4 : Vec F S1x27 .f32)
    (prev : FVec F S512x1 .bf16) (xt : Vec F S1x512x20 .f32) : FVec F S512x27 .f32 :=
  k1_pay13 (k1_pay6 (View.ld x2 rW1)) (k1_pay7 (View.ld x3 rW2)) (k1_pay8 (View.ld x1 rBase)) prev (k1_pay12 xt) (View.ld x4 rB2)

/-- What a step hands to the next: the first score, rounded. -/
def handOver (e : FVec F S512x27 .f32) : FVec F S512x1 .bf16 :=
  truncf .bf16 (extractStridedSlice S512x1 ![0, 0] e slices_S512x27_o0_0_S512x1) bitsLt_bf16_f32

/-- What step `n` of a chunk starts from: `p` at the first, afterwards what the step before hands over. -/
def carried (x0 : Vec F S6x512x20 .f32) (x1 : Vec F S512x1024 .f32) (x2 : Vec F S1044x1024 .f32) (x3 : Vec F S1024x27 .f32)
    (x4 : Vec F S1x27 .f32) (p : FVec F S512x1 .bf16) : ℕ → FVec F S512x1 .bf16
  | 0 => p
  | n + 1 => handOver (scores x1 x2 x3 x4 (carried x0 x1 x2 x3 x4 p n) (slab x0 (Fin.ofNat 6 n)))

/-- The six score arrays of a chunk, stacked: what the chunk leaves in its output block. -/
def chunkOut (x0 : Vec F S6x512x20 .f32) (x1 : Vec F S512x1024 .f32) (x2 : Vec F S1044x1024 .f32) (x3 : Vec F S1024x27 .f32)
    (x4 : Vec F S1x27 .f32) (p : FVec F S512x1 .bf16) : Vec F S6x512x27 .f32 :=
  stackAlong0 (G := 6) (r := 2) (d := ![512, 27]) fun s => scores x1 x2 x3 x4 (carried x0 x1 x2 x3 x4 p s.val) (slab x0 s)

/-- What a chunk at the start of the first walk starts from: column 0 of its first input row, rounded. -/
def firstPrev (x0 : Vec F S6x512x20 .f32) : FVec F S512x1 .bf16 := k1_pay5 (slab x0 0)

/-! ## What the stores leave -/

/-- The six stores of a chunk's output block, the last first. -/
abbrev outPieces (w : Fin 6 → Vec F S1x512x27 .f32) : List (View.Piece (Elt F) S6x512x27 .f32) :=
  [⟨Rect.unit (s := S6x512x27) ![5, 0, 0] S1x512x27.size inb_S6x512x27_S1x512x27_5_0_0, w 5⟩,
    ⟨Rect.unit (s := S6x512x27) ![4, 0, 0] S1x512x27.size inb_S6x512x27_S1x512x27_4_0_0, w 4⟩,
    ⟨Rect.unit (s := S6x512x27) ![3, 0, 0] S1x512x27.size inb_S6x512x27_S1x512x27_3_0_0, w 3⟩,
    ⟨Rect.unit (s := S6x512x27) ![2, 0, 0] S1x512x27.size inb_S6x512x27_S1x512x27_2_0_0, w 2⟩,
    ⟨Rect.unit (s := S6x512x27) ![1, 0, 0] S1x512x27.size inb_S6x512x27_S1x512x27_1_0_0, w 1⟩,
    ⟨Rect.unit (s := S6x512x27) ![0, 0, 0] S1x512x27.size inb_S6x512x27_S1x512x27_0_0_0, w 0⟩]

/-- They cover it. -/
theorem cover_out (w : Fin 6 → Vec F S1x512x27 .f32) (y : S6x512x27.Idx) : ∃ pc ∈ outPieces w, y ∈ pc.1.set :=
  View.cover_of_tiled (outPieces w) S1x512x27.size (by rfl) y

/-- Six arrays stored one below the other, each under a unit axis, leave their stack. -/
theorem canon_out (f : Fin 6 → Vec F S512x27 .f32) :
    View.canon (Val := Elt F) (s := S6x512x27) (e := .f32)
      (outPieces fun s => shapeCast S1x512x27 (f s) shapeCasts_S512x27_S1x512x27)
      = stackAlong0 (G := 6) (r := 2) (d := ![512, 27]) f := by
  funext y
  refine View.canon_eq_of_allAt _ y _ (cover_out _ y) ?_
  intro p hp x hx
  subst hx
  simp only [List.mem_cons, List.not_mem_nil, or_false] at hp
  rcases hp with rfl | rfl | rfl | rfl | rfl | rfl
  all_goals exact stack_piece_emb (G := 6) (r := 2) (d := ![512, 27]) f _ shapeCasts_S512x27_S1x512x27 _ (by decide) rfl (fun a => by fin_cases a <;> rfl) x

/-- The one store of the handed-over column covers its buffer. -/
theorem cover_prev (p0 : Vec F S512x1 .bf16) (y : S512x1.Idx) :
    ∃ pc ∈ ([⟨rPrev, p0⟩] : List (View.Piece (Elt F) S512x1 .bf16)), y ∈ pc.1.set :=
  View.cover_of_tiled [⟨rPrev, p0⟩] S512x1.size (by rfl) y

/-- The handed-over column stored whole, last, is what its buffer holds. -/
theorem canon_prev (w : Vec F S512x1 .bf16) (L : List (View.Piece (Elt F) S512x1 .bf16)) :
    View.canon (⟨rPrev, w⟩ :: L) = w :=
  View.canon_cons_unit_zero (funext fun a => by fin_cases a <;> rfl) _ _ _

/-- A chunk's six stores leave its stacked scores, whatever the buffer held. -/
theorem leaves_out {κ : Kind} {sp : Space} (v : View sig κ sp S6x512x27 .f32) (f : v.ty.Contents (Elt F))
    (x0 : Vec F S6x512x20 .f32) (x1 : Vec F S512x1024 .f32) (x2 : Vec F S1044x1024 .f32) (x3 : Vec F S1024x27 .f32)
    (x4 : Vec F S1x27 .f32) (p : FVec F S512x1 .bf16) :
    v.read (Elt F) (v.writes (Elt F) f (outPieces fun s =>
      shapeCast S1x512x27 (scores x1 x2 x3 x4 (carried x0 x1 x2 x3 x4 p s.val) (slab x0 s)) shapeCasts_S512x27_S1x512x27))
      = chunkOut x0 x1 x2 x3 x4 p :=
  (View.read_writes_eq_canon _ _ _ (cover_out _)).trans (canon_out _)

/-- The column stored last, whole, is what the buffer reads, whatever it held and whatever was stored before. -/
theorem leaves_prev {κ : Kind} {sp : Space} (v : View sig κ sp S512x1 .bf16) (f : v.ty.Contents (Elt F))
    (w : Vec F S512x1 .bf16) (L : List (View.Piece (Elt F) S512x1 .bf16)) :
    v.read (Elt F) (v.writes (Elt F) f (⟨rPrev, w⟩ :: L)) = w :=
  (View.read_writes_eq_canon _ _ _ fun y => by
    obtain ⟨p, hp, hy⟩ := cover_prev w y
    exact ⟨p, List.mem_cons.mpr (Or.inl (List.mem_singleton.mp hp)), hy⟩).trans (canon_prev w L)

/-- A column loaded whole is what the buffer holds. -/
theorem ld_prev (w : Vec F S512x1 .bf16) : View.ld w rPrev = w :=
  View.ld_unit_zero (funext fun a => by fin_cases a <;> rfl) _ _

/-! ## The bodies' payloads as steps

The printed bodies spell a step out six times, cut at their parts; each payload is one step or two of the same step
function. -/

section Payloads
variable (w1 : FVec F S20x1024 .bf16) (w2 : FVec F S1024x27 .bf16) (b : FVec F S512x1024 .f32)
variable (v4 : Vec F S20x1024 .f32) (v6 : Vec F S1024x27 .f32) (v8 : Vec F S512x1024 .f32)
variable (e : FVec F S512x27 .f32) (p : FVec F S512x1 .bf16) (q : FVec F S512x20 .f32)
variable (x y : Vec F S1x512x20 .f32) (z z' : Vec F S1x27 .f32)

theorem pay1_step : k1_pay1 w1 w2 b e x z = k1_pay13 w1 w2 b (handOver e) (k1_pay12 x) z := rfl
theorem pay2_step : k1_pay2 w1 w2 b e x z = shapeCast S1x512x27 (k1_pay1 w1 w2 b e x z) shapeCasts_S512x27_S1x512x27 := rfl
theorem pay3_step : k1_pay3 w1 w2 b e x z = handOver (k1_pay1 w1 w2 b e x z) := rfl
theorem pay4_step : k1_pay4 w1 w2 b e x z = handOver (k1_pay1 w1 w2 b e x z) := shapeCast_self _ _
theorem pay9_step : k1_pay9 p v4 v6 v8 x z = k1_pay13 (k1_pay6 v4) (k1_pay7 v6) (k1_pay8 v8) p (k1_pay12 x) z := rfl
theorem pay10_step : k1_pay10 p v4 v6 v8 x z = shapeCast S1x512x27 (k1_pay9 p v4 v6 v8 x z) shapeCasts_S512x27_S1x512x27 := rfl
theorem pay11_step : k1_pay11 p v4 v6 v8 x z = handOver (k1_pay9 p v4 v6 v8 x z) := rfl
theorem pay14_step : k1_pay14 w1 w2 b p q z = shapeCast S1x512x27 (k1_pay13 w1 w2 b p q z) shapeCasts_S512x27_S1x512x27 := rfl
theorem pay15_step : k1_pay15 w1 w2 b p q z x z' = k1_pay13 w1 w2 b (handOver (k1_pay13 w1 w2 b p q z)) (k1_pay12 x) z' := rfl
theorem pay16_step : k1_pay16 w1 w2 b p q z x z' = shapeCast S1x512x27 (k1_pay15 w1 w2 b p q z x z') shapeCasts_S512x27_S1x512x27 := rfl
theorem pay17_step : k1_pay17 w1 w2 b p q z x z' = handOver (k1_pay15 w1 w2 b p q z x z') := rfl
theorem pay18_step : k1_pay18 w1 w2 b p x z = k1_pay13 w1 w2 b p (k1_pay12 x) z := rfl
theorem pay19_step : k1_pay19 w1 w2 b p x z = shapeCast S1x512x27 (k1_pay18 w1 w2 b p x z) shapeCasts_S512x27_S1x512x27 := rfl
theorem pay20_step : k1_pay20 w1 w2 b p x z y z' = k1_pay13 w1 w2 b (handOver (k1_pay18 w1 w2 b p x z)) (k1_pay12 y) z' := rfl
theorem pay21_step : k1_pay21 w1 w2 b p x z y z' = shapeCast S1x512x27 (k1_pay20 w1 w2 b p x z y z') shapeCasts_S512x27_S1x512x27 := rfl

end Payloads

/-- The second walk's payloads are the first's, save the one that resets the scratch. -/
theorem same1 : k2_pay1 (F := F) = k1_pay1 (F := F) := rfl
theorem same2 : k2_pay2 (F := F) = k1_pay2 (F := F) := rfl
theorem same3 : k2_pay3 (F := F) = k1_pay3 (F := F) := rfl
theorem same4 : k2_pay4 (F := F) = k1_pay4 (F := F) := rfl
theorem same6 : k2_pay6 (F := F) = k1_pay6 (F := F) := rfl
theorem same7 : k2_pay7 (F := F) = k1_pay7 (F := F) := rfl
theorem same8 : k2_pay8 (F := F) = k1_pay8 (F := F) := rfl
theorem same9 : k2_pay9 (F := F) = k1_pay9 (F := F) := rfl
theorem same10 : k2_pay10 (F := F) = k1_pay10 (F := F) := rfl
theorem same11 : k2_pay11 (F := F) = k1_pay11 (F := F) := rfl
theorem same12 : k2_pay12 (F := F) = k1_pay12 (F := F) := rfl
theorem same13 : k2_pay13 (F := F) = k1_pay13 (F := F) := rfl
theorem same14 : k2_pay14 (F := F) = k1_pay14 (F := F) := rfl
theorem same15 : k2_pay15 (F := F) = k1_pay15 (F := F) := rfl
theorem same16 : k2_pay16 (F := F) = k1_pay16 (F := F) := rfl
theorem same17 : k2_pay17 (F := F) = k1_pay17 (F := F) := rfl
theorem same18 : k2_pay18 (F := F) = k1_pay18 (F := F) := rfl
theorem same19 : k2_pay19 (F := F) = k1_pay19 (F := F) := rfl
theorem same20 : k2_pay20 (F := F) = k1_pay20 (F := F) := rfl
theorem same21 : k2_pay21 (F := F) = k1_pay21 (F := F) := rfl

/-- The second walk resets the scratch to the column handed in. -/
theorem reset2 (w : Vec F S512x1 .bf16) : k2_pay5 w = w :=
  (shapeCast_self _ _).trans (shapeCast_self _ _)

end Cert.Walk

end
-- ==== Proof.Windows.lean ====
/- What every region's proof uses of its windows: an input window's buffer holds the block the fetch puts there at every
   point, fetched there or kept from the point before. -/
module

public import proofs.«01_k».proof.Proof.Steps

@[expose] public section

set_option maxRecDepth 16384

noncomputable section

namespace Cert.Walk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- An input window whose body leaves the fetched block in place finds it there at every point: `hkeep` says what the body
    leaves is the block, `hfill` that a fetch fills the whole buffer with it. -/
theorem held {cfg : Cfg sig Λ₀} {c : Dev nD} (dat : Dat τ (Elt F) Unit ℕ (UR sig nD τ) ℕ cfg c) (w : Fin cfg.W)
    (hw : (cfg.win w).isOut = false) (hidle : ∀ i, cfg.idle w i = false)
    (hclip : ∀ t t' : Fin cfg.N, (cfg.win w).index t = (cfg.win w).index t' →
      (cfg.win w).clip (cfg.grid.coords t) = (cfg.win w).clip (cfg.grid.coords t'))
    (hkeep : ∀ t, (cfg.win w).cut (cfg.grid.coords t) (dat.after w t) = dat.blockOf w t)
    (hfill : ∀ t d, dat.fetched w t d = dat.after w t) (t : Fin cfg.N) (d) : dat.before w t d = dat.after w t :=
  (dat.before_in_eq_fetched w hw hidle hclip hkeep t d).trans (hfill t d)

end Cert.Walk

end
-- ==== Proof.Base.lean ====
/- The first call: the base array, tile by tile of 256 rows. Its body's triple, its proof data and its obligation. -/
module

public import proofs.«01_k».proof.Proof.Windows

@[expose] public section

set_option maxRecDepth 16384

noncomputable section

namespace Cert.Walk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev rO : Rect S256x3060 := Rect.unit (s := S256x3060) ![0, 0] S256x3060.size inb_S256x3060_S256x3060_0_0
abbrev rOW1 : Rect S3060x1024 := Rect.unit (s := S3060x1024) ![0, 0] S3060x1024.size inb_S3060x1024_S3060x1024_0_0
abbrev rRow : Rect S1x1024 := Rect.unit (s := S1x1024) ![0, 0] S1x1024.size inb_S1x1024_S1x1024_0_0
abbrev rOW2 : Rect S1024x1024 := Rect.unit (s := S1024x1024) ![0, 0] S1024x1024.size inb_S1024x1024_S1024x1024_0_0
abbrev rEW1 : Rect S1044x1024 := Rect.unit (s := S1044x1024) ![0, 0] S1044x1024.size inb_S1044x1024_S1044x1024_0_0
abbrev rTile : Rect S256x1024 := Rect.unit (s := S256x1024) ![0, 0] S256x1024.size inb_S256x1024_S256x1024_0_0

/-- A tile of the base array, from the tile of `o` and the whole weights. -/
def baseTile (x0 : Vec F S256x3060 .f32) (x1 : Vec F S3060x1024 .f32) (x2 : Vec F S1x1024 .f32) (x3 : Vec F S1024x1024 .f32)
    (x4 : Vec F S1x1024 .f32) (x5 : Vec F S1044x1024 .f32) (x6 : Vec F S1x1024 .f32) : Vec F S256x1024 .f32 :=
  k0_pay1 (View.ld x0 rO) (View.ld x1 rOW1) (View.ld x2 rRow) (View.ld x3 rOW2) (View.ld x4 rRow) (View.ld x5 rEW1) (View.ld x6 rRow)

/-- The one store of a tile covers its buffer and leaves what it stores. -/
theorem leaves_tile {κ : Kind} {sp : Space} (v : View sig κ sp S256x1024 .f32) (f : v.ty.Contents (Elt F)) (w : Vec F S256x1024 .f32) :
    v.read (Elt F) (v.writes (Elt F) f [⟨rTile, w⟩]) = w :=
  (View.read_writes_eq_canon _ _ _ fun y => View.cover_of_tiled [⟨rTile, w⟩] S256x1024.size (by rfl) y).trans
    (View.canon_cons_unit_zero (funext fun a => by fin_cases a <;> rfl) _ _ _)

set_option maxHeartbeats 1000000 in
/-- The body on whole buffers: the inputs' stay, the output's is left at the tile. -/
theorem body0 (c : Dev nD) (E : Set ℕ) (i : grid0.Coords) (arg1 : Memref sig .tc .vmem S256x3060 .f32) (harg1 : arg1.IsWhole) (arg2 : Memref sig .tc .vmem S3060x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1044x1024 .f32) (harg6 : arg6.IsWhole) (arg7 : Memref sig .tc .vmem S1x1024 .f32) (harg7 : arg7.IsWhole) (arg8 : Memref sig .tc .vmem S256x1024 .f32) (harg8 : arg8.IsWhole)
    (x0 : Vec F S256x3060 .f32) (x1 : Vec F S3060x1024 .f32) (x2 : Vec F S1x1024 .f32) (x3 : Vec F S1024x1024 .f32) (x4 : Vec F S1x1024 .f32) (x5 : Vec F S1044x1024 .f32) (x6 : Vec F S1x1024 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ (∃ d, owns (c : Thread nD τ) arg8 fullShare d)
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare (baseTile x0 x1 x2 x3 x4 x5 x6)) -∗ K ⟨⟩))
      ⊢ wp frame (wpE (defs₀ (F := F)) Variants.none c none) E (cc0_walk_base i arg1 harg1 arg2 harg2 arg3 harg3 arg4 harg4 arg5 harg5 arg6 harg6 arg7 harg7 arg8 harg8) K := by
  simp only [cc0_walk_base_eq_skeleton]; unfold cc0_walk_base_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact leaves_tile _ _ _

/-! ## The region's proof data, over any entry contents -/

variable (V : (c : Dev nD) → (b : Ref sig .tc) → Buf (Elt F) ((c : Thread nD τ).loc b))

/-- Window `w`'s block at point `t`, of the array as the region finds it. -/
def tile0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Every input's buffer stays at its block; the output's is left at the base tile of the blocks. -/
def dat0 (c : Dev nD) : Dat τ (Elt F) Unit ℕ (UR sig nD τ) ℕ cfg0 c where
  A w := V c (Pipeline.arrRef spec0 w)
  after w t := match w with
    | ⟨0, _⟩ => tile0 V c 0 t
    | ⟨1, _⟩ => tile0 V c 1 t
    | ⟨2, _⟩ => tile0 V c 2 t
    | ⟨3, _⟩ => tile0 V c 3 t
    | ⟨4, _⟩ => tile0 V c 4 t
    | ⟨5, _⟩ => tile0 V c 5 t
    | ⟨6, _⟩ => tile0 V c 6 t
    | ⟨7, _⟩ => baseTile (tile0 V c 0 t) (tile0 V c 1 t) (tile0 V c 2 t) (tile0 V c 3 t) (tile0 V c 4 t) (tile0 V c 5 t) (tile0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = tile0 V c 0 t := by dsimp only [dat0]
theorem after0_1 (c : Dev nD) (t : Fin cfg0.N) : (dat0 V c).after 1 t = tile0 V c 1 t := by dsimp only [dat0]
theorem after0_2 (c : Dev nD) (t : Fin cfg0.N) : (dat0 V c).after 2 t = tile0 V c 2 t := by dsimp only [dat0]
theorem after0_3 (c : Dev nD) (t : Fin cfg0.N) : (dat0 V c).after 3 t = tile0 V c 3 t := by dsimp only [dat0]
theorem after0_4 (c : Dev nD) (t : Fin cfg0.N) : (dat0 V c).after 4 t = tile0 V c 4 t := by dsimp only [dat0]
theorem after0_5 (c : Dev nD) (t : Fin cfg0.N) : (dat0 V c).after 5 t = tile0 V c 5 t := by dsimp only [dat0]
theorem after0_6 (c : Dev nD) (t : Fin cfg0.N) : (dat0 V c).after 6 t = tile0 V c 6 t := by dsimp only [dat0]
theorem after0_7 (c : Dev nD) (t : Fin cfg0.N) : (dat0 V c).after 7 t = baseTile (tile0 V c 0 t) (tile0 V c 1 t) (tile0 V c 2 t) (tile0 V c 3 t) (tile0 V c 4 t) (tile0 V c 5 t) (tile0 V c 6 t) := by
  dsimp only [dat0]

theorem before0_0 (c : Dev nD) (t : Fin cfg0.N) (d) : (dat0 V c).before 0 t d = tile0 V c 0 t :=
  (held (dat0 V c) 0 rfl (fun _ => rfl) (fun _ _ _ => rfl) (fun _ => rfl) (fun _ _ => rfl) t d).trans (after0_0 V c t)
theorem before0_1 (c : Dev nD) (t : Fin cfg0.N) (d) : (dat0 V c).before 1 t d = tile0 V c 1 t :=
  (held (dat0 V c) 1 rfl (fun _ => rfl) (fun _ _ _ => rfl) (fun _ => rfl) (fun _ _ => rfl) t d).trans (after0_1 V c t)
theorem before0_2 (c : Dev nD) (t : Fin cfg0.N) (d) : (dat0 V c).before 2 t d = tile0 V c 2 t :=
  (held (dat0 V c) 2 rfl (fun _ => rfl) (fun _ _ _ => rfl) (fun _ => rfl) (fun _ _ => rfl) t d).trans (after0_2 V c t)
theorem before0_3 (c : Dev nD) (t : Fin cfg0.N) (d) : (dat0 V c).before 3 t d = tile0 V c 3 t :=
  (held (dat0 V c) 3 rfl (fun _ => rfl) (fun _ _ _ => rfl) (fun _ => rfl) (fun _ _ => rfl) t d).trans (after0_3 V c t)
theorem before0_4 (c : Dev nD) (t : Fin cfg0.N) (d) : (dat0 V c).before 4 t d = tile0 V c 4 t :=
  (held (dat0 V c) 4 rfl (fun _ => rfl) (fun _ _ _ => rfl) (fun _ => rfl) (fun _ _ => rfl) t d).trans (after0_4 V c t)
theorem before0_5 (c : Dev nD) (t : Fin cfg0.N) (d) : (dat0 V c).before 5 t d = tile0 V c 5 t :=
  (held (dat0 V c) 5 rfl (fun _ => rfl) (fun _ _ _ => rfl) (fun _ => rfl) (fun _ _ => rfl) t d).trans (after0_5 V c t)
theorem before0_6 (c : Dev nD) (t : Fin cfg0.N) (d) : (dat0 V c).before 6 t d = tile0 V c 6 t :=
  (held (dat0 V c) 6 rfl (fun _ => rfl) (fun _ _ _ => rfl) (fun _ => rfl) (fun _ _ => rfl) t d).trans (after0_6 V c t)

/-- The body table's row at point `t`'s slots is the body there. -/
theorem row0 (t : Fin cfg0.N) : defs₀ (F := F) .tc cfg0.body (cfg0.bodyArgs t (cfg0.slots t)) = bodyAt0 t := by
  unfold defs₀; rw [Defs.onTc_tc]

/-- The body at point `t`, from the windows' buffers as the pipeline hands them over to what it takes back. -/
theorem point0 (c : Dev nD) (t : Fin cfg0.N) :
    iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))
    ⊢ wp frame (wpE (defs₀ (F := F)) Variants.none c none) Set.univ (bodyAt0 t) (fun _ =>
      iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))) := by
  unfold bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body0 c Set.univ (grid0.coords t) _ _ _ _ _ _ _ _ _ _ _ _ _ _ _ _ (tile0 V c 0 t) (tile0 V c 1 t) (tile0 V c 2 t) (tile0 V c 3 t) (tile0 V c 4 t) (tile0 V c 5 t) (tile0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The region's body obligation. -/
theorem oblig0 (c : Dev nD) : BodyObligation (dat0 (F := F) V c) (defs₀ (F := F)) Variants.none () Set.univ := fun t => by
  rw [bigSep_W0, bigSep_W0, row0]
  exact triple_restated (point0 V c t) rfl .rfl fun _ => .rfl

end Cert.Walk

end
-- ==== Proof.Walk1.lean ====
/- The first walk's body (steps 0 to 41): its triple at a grid point, from any contents of the carried scratch. -/
module

public import proofs.«01_k».proof.Proof.Steps

@[expose] public section

set_option maxRecDepth 16384

noncomputable section

namespace Cert.Walk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- A point is the first of its tile of rows: the body's own test of the second grid coordinate. -/
abbrev first1 (i : grid1.Coords) : Prop := (Scalar.cmpi .ne (Scalar.extui (Scalar.cmpi .eq (BitVec.ofNat 32 (i 1).val) 0#32)) 0#32) = 1#1

/-- What the first walk's chunk starts from: column 0 of its first row at a tile's first point, else the scratch. -/
def start1 (i : grid1.Coords) (x0 : Vec F S6x512x20 .f32) (d : Vec F S512x1 .bf16) : FVec F S512x1 .bf16 :=
  if first1 i then firstPrev x0 else d

set_option maxHeartbeats 4000000 in
/-- The first walk's body at a point: from input blocks `x0` … `x5` and scratch contents `d`, it leaves the chunk's scores
    in the output block and what its last step hands over in both the scratch and the second output. -/
theorem body1 (c : Dev nD) (E : Set ℕ) (i : grid1.Coords) (arg2 : Memref sig .tc .vmem S6x512x20 .f32) (harg2 : arg2.IsWhole) (arg3 : Memref sig .tc .vmem S512x1024 .f32) (harg3 : arg3.IsWhole) (arg4 : Memref sig .tc .vmem S1044x1024 .f32) (harg4 : arg4.IsWhole) (arg5 : Memref sig .tc .vmem S1024x27 .f32) (harg5 : arg5.IsWhole) (arg6 : Memref sig .tc .vmem S1x27 .f32) (harg6 : arg6.IsWhole) (arg7 : Memref sig .tc .vmem S512x1 .bf16) (harg7 : arg7.IsWhole) (arg8 : Memref sig .tc .vmem S6x512x27 .f32) (harg8 : arg8.IsWhole) (arg9 : Memref sig .tc .vmem S512x1 .bf16) (harg9 : arg9.IsWhole) (arg10 : Memref sig .tc .vmem S512x1 .bf16) (harg10 : arg10.IsWhole)
    (x0 : Vec F S6x512x20 .f32) (x1 : Vec F S512x1024 .f32) (x2 : Vec F S1044x1024 .f32) (x3 : Vec F S1024x27 .f32) (x4 : Vec F S1x27 .f32) (x5 d : Vec F S512x1 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ e, owns (c : Thread nD τ) arg8 fullShare e) ∗ (∃ e, owns (c : Thread nD τ) arg9 fullShare e) ∗ owns (c : Thread nD τ) arg10 fullShare d
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (chunkOut x0 x1 x2 x3 x4 (start1 i x0 d))
            ∗ owns (c : Thread nD τ) arg9 fullShare (carried x0 x1 x2 x3 x4 (start1 i x0 d) 6)
            ∗ owns (c : Thread nD τ) arg10 fullShare (carried x0 x1 x2 x3 x4 (start1 i x0 d) 6)) -∗ K ⟨⟩))
      ⊢ wp frame (wpE (defs₀ (F := F)) Variants.none c none) E (cc1_walk_loop i arg2 harg2 arg3 harg3 arg4 harg4 arg5 harg5 arg6 harg6 arg7 harg7 arg8 harg8 arg9 harg9 arg10 harg10) K := by
  simp only [cc1_walk_loop_eq_skeleton]; unfold cc1_walk_loop_skel
  simp only [k1_part1_eq_skeleton, k1_part2_eq_skeleton, k1_part3_eq_skeleton]
  unfold owns start1
  by_cases hc : first1 i
  · rw [if_pos hc]
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
    subst hf0 hf1 hf2 hf3 hf4 hf5
    sl_exec (disch := first | sl_exact hc)
    have hv : body1.sl.v3 c arg2 arg10 f0 = firstPrev (View.read (Elt F) arg2.view f0) := by
      delta body1.sl.v3 body1.sl.H8_1
      refine (View.readCov_eq_canon_ld _ _ _ (cover_prev _)).trans ((congrArg (fun w => View.ld w rPrev) (canon_prev _ [])).trans (ld_prev _))
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; isplitr
      swap; · iexact H6
      ipureintro
      refine Eq.trans (congrArg (fun L => View.read (Elt F) arg8.view (arg8.view.writes (Elt F) f6 L)) ?_) (leaves_out arg8.view f6 _ _ _ _ _ _)
      delta body1.sl.r_7 body1.sl.r_6 body1.sl.r_5 body1.sl.r_4 body1.sl.r_3 body1.sl.r_2 body1.sl.r_1 body1.sl.r
      simp only [pay2_step, pay1_step, pay10_step, pay9_step, pay11_step, pay14_step, pay15_step, pay16_step, pay17_step, pay18_step, pay19_step, pay20_step, pay21_step, View.readAt_eq_ld]
      rw [hv]
      rfl
    isplitl [H7]
    · iexists _; isplitr
      swap; · iexact H7
      ipureintro
      refine (leaves_prev arg9.view _ _ _).trans ?_
      delta body1.sl.r_7 body1.sl.r_6 body1.sl.r_5 body1.sl.r_4 body1.sl.r_3 body1.sl.r_2 body1.sl.r_1 body1.sl.r
      simp only [pay2_step, pay3_step, pay4_step, pay1_step, pay10_step, pay9_step, pay11_step, pay14_step, pay15_step, pay16_step, pay17_step, pay18_step, pay19_step, pay20_step, pay21_step, View.readAt_eq_ld]
      rw [hv]
      rfl
    iexists _; isplitr
    swap; · iexact H8
    ipureintro
    refine (leaves_prev arg10.view _ _ _).trans ?_
    delta body1.sl.r_7 body1.sl.r_6 body1.sl.r_5 body1.sl.r_4 body1.sl.r_3 body1.sl.r_2 body1.sl.r_1 body1.sl.r
    simp only [pay2_step, pay3_step, pay4_step, pay1_step, pay10_step, pay9_step, pay11_step, pay14_step, pay15_step, pay16_step, pay17_step, pay18_step, pay19_step, pay20_step, pay21_step, View.readAt_eq_ld]
    rw [hv]
    rfl
  · rw [if_neg hc]
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
    subst hf0 hf1 hf2 hf3 hf4 hf5 hf8
    sl_exec (disch := first | sl_exact hc)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; isplitr
      swap; · iexact H6
      ipureintro
      refine Eq.trans (congrArg (fun L => View.read (Elt F) arg8.view (arg8.view.writes (Elt F) f6 L)) ?_) (leaves_out arg8.view f6 _ _ _ _ _ _)
      delta body1.sl.r_15 body1.sl.r_14 body1.sl.r_13 body1.sl.r_12 body1.sl.r_11 body1.sl.r_10 body1.sl.r_9 body1.sl.r_8
      simp only [pay2_step, pay1_step, pay10_step, pay9_step, pay11_step, pay14_step, pay15_step, pay16_step, pay17_step, pay18_step, pay19_step, pay20_step, pay21_step, View.readAt_eq_ld]
      rw [ld_prev]
      rfl
    isplitl [H7]
    · iexists _; isplitr
      swap; · iexact H7
      ipureintro
      refine (leaves_prev arg9.view _ _ _).trans ?_
      delta body1.sl.r_15 body1.sl.r_14 body1.sl.r_13 body1.sl.r_12 body1.sl.r_11 body1.sl.r_10 body1.sl.r_9 body1.sl.r_8
      simp only [pay2_step, pay3_step, pay4_step, pay1_step, pay10_step, pay9_step, pay11_step, pay14_step, pay15_step, pay16_step, pay17_step, pay18_step, pay19_step, pay20_step, pay21_step, View.readAt_eq_ld]
      rw [ld_prev]
      rfl
    iexists _; isplitr
    swap; · iexact H8
    ipureintro
    refine (leaves_prev arg10.view _ _ _).trans ?_
    delta body1.sl.r_15 body1.sl.r_14 body1.sl.r_13 body1.sl.r_12 body1.sl.r_11 body1.sl.r_10 body1.sl.r_9 body1.sl.r_8
    simp only [pay2_step, pay3_step, pay4_step, pay1_step, pay10_step, pay9_step, pay11_step, pay14_step, pay15_step, pay16_step, pay17_step, pay18_step, pay19_step, pay20_step, pay21_step, View.readAt_eq_ld]
    rw [ld_prev]
    rfl

end Cert.Walk

end
-- ==== Proof.Region1.lean ====
/- The first walk as a pipeline: what its scratch carries from point to point, its proof data and its obligation. -/
module

public import proofs.«01_k».proof.Proof.Windows
public import proofs.«01_k».proof.Proof.Walk1

@[expose] public section

set_option maxRecDepth 16384

noncomputable section

namespace Cert.Walk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The points -/

/-- A point is the first of its tile of rows when its number is a multiple of seven. -/
theorem first1_iff : ∀ t : Fin cfg1.N, first1 (grid1.coords t) ↔ t.val % 7 = 0 :=
  (fun t => by
    have ht : t.val < 14 := Nat.lt_of_lt_of_eq t.isLt N_1
    have e1 : (grid1.coords t 1).val = t.val / 1 % 7 := Pipeline.Grid.coords_val t 1 (by decide) rfl
    simp only [first1, e1]
    word_cmp
   : ∀ t : Fin grid1.N, first1 (grid1.coords t) ↔ t.val % 7 = 0)

/-! ## The windows' blocks -/

variable (V : (c : Dev nD) → (b : Ref sig .tc) → Buf (Elt F) ((c : Thread nD τ).loc b))

/-- Window `w`'s block at point `t`, of the array as the region finds it. -/
def tile1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input rows' buffer at point `t`: its block, over anything (85 rows are no multiple of six, so the block's shape may
    be cut; it never is). -/
def rows1 (c : Dev nD) (t : Fin cfg1.N) : (cfg1.win 0).block.Idx → Elt F (cfg1.win 0).elt :=
  (cfg1.win 0).fill (cfg1.grid.coords t) (fun _ => Classical.choice inferInstance) (tile1 V c 0 t)

/-- No block of the input rows is cut at any point. -/
theorem uncut1 : ∀ t : Fin cfg1.N, ∀ a, (cfg1.win 0).xsize (cfg1.grid.coords t) a = (cfg1.win 0).size a := by decide +kernel

/-- So the fetch fills every index of its buffer. -/
theorem moved1 (t : Fin cfg1.N) (j : (cfg1.win 0).block.Idx) : (cfg1.win 0).moved (cfg1.grid.coords t) j = true :=
  ((cfg1.win 0).moved_iff _ j).mpr fun a => by rw [uncut1 t a]; exact (j a).isLt

/-- Filling the buffer with a block leaves the same whatever it held. -/
theorem fills1 (t : Fin cfg1.N) (d d' : (cfg1.win 0).block.Idx → Elt F (cfg1.win 0).elt) (g) :
    (cfg1.win 0).fill (cfg1.grid.coords t) d g = (cfg1.win 0).fill (cfg1.grid.coords t) d' g := by
  funext j; unfold Pipeline.Window.fill; rw [dif_pos (moved1 t j), dif_pos (moved1 t j)]

/-! ## What the scratch carries -/

/-- What the body at point `t` hands over from scratch contents `d`. -/
def handed1 (c : Dev nD) (t : Fin cfg1.N) (d : FVec F S512x1 .bf16) : FVec F S512x1 .bf16 :=
  carried (rows1 V c t) (tile1 V c 1 t) (tile1 V c 2 t) (tile1 V c 3 t) (tile1 V c 4 t) (start1 (grid1.coords t) (rows1 V c t) d) 6

/-- The scratch after `n` points. -/
def left1 (c : Dev nD) : ℕ → FVec F S512x1 .bf16
  | 0 => constant S512x1 .bf16 0x0000#16
  | n + 1 => if h : n < cfg1.N then handed1 V c ⟨n, h⟩ (left1 c n) else left1 c n

theorem left1_succ (c : Dev nD) (t : Fin cfg1.N) : left1 V c (t.val + 1) = handed1 V c t (left1 V c t.val) := by
  rw [left1, dif_pos t.isLt]

/-- Every input's buffer stays at its block; the outputs' are left at the chunk's scores and at what it hands over; between
    points the scratch holds what the point before handed over. -/
def dat1 (c : Dev nD) : Dat τ (Elt F) Unit ℕ (UR sig nD τ) ℕ cfg1 c where
  A w := V c (Pipeline.arrRef spec1 w)
  after w t := match w with
    | ⟨0, _⟩ => rows1 V c t
    | ⟨1, _⟩ => tile1 V c 1 t
    | ⟨2, _⟩ => tile1 V c 2 t
    | ⟨3, _⟩ => tile1 V c 3 t
    | ⟨4, _⟩ => tile1 V c 4 t
    | ⟨5, _⟩ => tile1 V c 5 t
    | ⟨6, _⟩ => chunkOut (rows1 V c t) (tile1 V c 1 t) (tile1 V c 2 t) (tile1 V c 3 t) (tile1 V c 4 t) (start1 (grid1.coords t) (rows1 V c t) (left1 V c t.val))
    | ⟨7, _⟩ => handed1 V c t (left1 V c t.val)
  Φ t := iprop((∃ d, ⌜t.val ≠ 0 → d = left1 V c t.val⌝ ∗ owns (c : Thread nD τ) (Memref.whole cc1_scratch0) fullShare d)
    ∗ Pipeline.scopedRestBut (Ix := Unit) (Name := ℕ) (U := UR sig nD τ) (Lvl := ℕ) (Val := Elt F) spec1 c [cc1_scratch0]
    ∗ ∃ r, prngReg c r)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = rows1 V c t := by dsimp only [dat1]
theorem after1_1 (c : Dev nD) (t : Fin cfg1.N) : (dat1 V c).after 1 t = tile1 V c 1 t := by dsimp only [dat1]
theorem after1_2 (c : Dev nD) (t : Fin cfg1.N) : (dat1 V c).after 2 t = tile1 V c 2 t := by dsimp only [dat1]
theorem after1_3 (c : Dev nD) (t : Fin cfg1.N) : (dat1 V c).after 3 t = tile1 V c 3 t := by dsimp only [dat1]
theorem after1_4 (c : Dev nD) (t : Fin cfg1.N) : (dat1 V c).after 4 t = tile1 V c 4 t := by dsimp only [dat1]
theorem after1_5 (c : Dev nD) (t : Fin cfg1.N) : (dat1 V c).after 5 t = tile1 V c 5 t := by dsimp only [dat1]
theorem after1_6 (c : Dev nD) (t : Fin cfg1.N) : (dat1 V c).after 6 t = chunkOut (rows1 V c t) (tile1 V c 1 t) (tile1 V c 2 t) (tile1 V c 3 t) (tile1 V c 4 t) (start1 (grid1.coords t) (rows1 V c t) (left1 V c t.val)) := by
  dsimp only [dat1]
theorem after1_7 (c : Dev nD) (t : Fin cfg1.N) : (dat1 V c).after 7 t = handed1 V c t (left1 V c t.val) := by
  dsimp only [dat1]

theorem before1_0 (c : Dev nD) (t : Fin cfg1.N) (d) : (dat1 V c).before 0 t d = rows1 V c t :=
  ((dat1 V c).before_fetched 0 t (fetch1_0 t) d).trans (fills1 t _ _ _)
theorem before1_1 (c : Dev nD) (t : Fin cfg1.N) (d) : (dat1 V c).before 1 t d = tile1 V c 1 t :=
  (held (dat1 V c) 1 rfl (fun _ => rfl) (fun _ _ _ => rfl) (fun _ => rfl) (fun _ _ => rfl) t d).trans (after1_1 V c t)
theorem before1_2 (c : Dev nD) (t : Fin cfg1.N) (d) : (dat1 V c).before 2 t d = tile1 V c 2 t :=
  (held (dat1 V c) 2 rfl (fun _ => rfl) (fun _ _ _ => rfl) (fun _ => rfl) (fun _ _ => rfl) t d).trans (after1_2 V c t)
theorem before1_3 (c : Dev nD) (t : Fin cfg1.N) (d) : (dat1 V c).before 3 t d = tile1 V c 3 t :=
  (held (dat1 V c) 3 rfl (fun _ => rfl) (fun _ _ _ => rfl) (fun _ => rfl) (fun _ _ => rfl) t d).trans (after1_3 V c t)
theorem before1_4 (c : Dev nD) (t : Fin cfg1.N) (d) : (dat1 V c).before 4 t d = tile1 V c 4 t :=
  (held (dat1 V c) 4 rfl (fun _ => rfl) (fun _ _ _ => rfl) (fun _ => rfl) (fun _ _ => rfl) t d).trans (after1_4 V c t)
theorem before1_5 (c : Dev nD) (t : Fin cfg1.N) (d) : (dat1 V c).before 5 t d = tile1 V c 5 t :=
  (held (dat1 V c) 5 rfl (fun _ => rfl) (fun _ _ _ => rfl) (fun _ => rfl) (fun _ _ => rfl) t d).trans (after1_5 V c t)

/-- The body at a point starts from what the point before handed over, or resets the scratch. -/
theorem start1_of (c : Dev nD) (t : Fin cfg1.N) (d : FVec F S512x1 .bf16) (h : t.val ≠ 0 → d = left1 V c t.val) :
    start1 (grid1.coords t) (rows1 V c t) d = start1 (grid1.coords t) (rows1 V c t) (left1 V c t.val) := by
  by_cases h0 : t.val = 0
  · have hf : first1 (grid1.coords t) := (first1_iff t).mpr (by rw [h0])
    unfold start1; rw [if_pos hf, if_pos hf]
  · rw [h h0]

/-- The body table's row at point `t`'s slots is the body there. -/
theorem row1 (t : Fin cfg1.N) : defs₀ (F := F) .tc cfg1.body (cfg1.bodyArgs t (cfg1.slots t)) = bodyAt1 t := by
  unfold defs₀; rw [Defs.onTc_tc]

/-- The body at point `t`, from the windows' buffers as the pipeline hands them over to what it takes back. -/
theorem point1 (c : Dev nD) (t : Fin cfg1.N) :
    iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))
    ⊢ wp frame (wpE (defs₀ (F := F)) Variants.none c none) Set.univ (bodyAt1 t) (fun _ =>
      iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))) := by
  unfold bodyAt1
  simp only [before1_0, before1_1, before1_2, before1_3, before1_4, before1_5]
  rw [show (dat1 V c).owesAt () t.succ = (dat1 V c).owesAt () t.castSucc from rfl,
    after1_0, after1_1, after1_2, after1_3, after1_4, after1_5, after1_6, after1_7]
  dsimp only [dat1]
  iintro ⟨⟨⟨%d, %hd, HS⟩, Hr, Hp⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body1 c Set.univ (grid1.coords t) _ _ _ _ _ _ _ _ _ _ _ _ _ _ _ _ _ _ (rows1 V c t) (tile1 V c 1 t) (tile1 V c 2 t) (tile1 V c 3 t) (tile1 V c 4 t) (tile1 V c 5 t) d _)
  rw [start1_of V c t d hd]
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS]; · iexact HS
  iintro ⟨H0, H1, H2, H3, H4, H5, H6, H7, HS⟩
  isplitl [HS Hr Hp]
  · isplitl [HS]
    · iexists _; isplitr
      swap; · iexact HS
      ipureintro
      exact fun _ => (left1_succ V c t).symm
    isplitl [Hr]; · iexact Hr
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The region's body obligation. -/
theorem oblig1 (c : Dev nD) : BodyObligation (dat1 (F := F) V c) (defs₀ (F := F)) Variants.none () Set.univ := fun t => by
  rw [bigSep_W1, bigSep_W1, row1]
  exact triple_restated (point1 V c t) rfl .rfl fun _ => .rfl

/-- At the region's entry the scratch may hold anything. -/
theorem enter1 (c : Dev nD) : iprop((∃ r, prngReg c r) ∗ Pipeline.scopedRest (Ix := Unit) (Name := ℕ) (U := UR sig nD τ) (Lvl := ℕ) (Val := Elt F) spec1 c)
    ⊢ ((dat1 V c).Φ 0 : sProp 𝕄) := by
  rw [scopedRest1_split]
  dsimp only [dat1]
  simp only [owns_whole]
  iintro ⟨Hp, ⟨%f, Hf⟩, Hr⟩
  isplitl [Hf]
  · iexists f; isplitr
    · ipureintro; exact fun h => absurd rfl h
    iexact Hf
  isplitl [Hr]; · iexact Hr
  iexact Hp

/-- At its exit what the scratch holds is forgotten. -/
theorem leave1 (c : Dev nD) : ((dat1 V c).Φ (Fin.last cfg1.N) : sProp 𝕄)
    ⊢ iprop((∃ r, prngReg c r) ∗ Pipeline.scopedRest (Ix := Unit) (Name := ℕ) (U := UR sig nD τ) (Lvl := ℕ) (Val := Elt F) spec1 c) := by
  rw [scopedRest1_split]
  dsimp only [dat1]
  simp only [owns_whole]
  iintro ⟨⟨%f, -, Hf⟩, Hr, Hp⟩
  isplitl [Hp]; · iexact Hp
  isplitl [Hf]
  · iexists f; iexact Hf
  iexact Hr

end Cert.Walk

end
-- ==== Proof.Walk2.lean ====
/- The second walk's body (steps 42 to 83): its triple at a grid point, from any contents of the carried scratch. -/
module

public import proofs.«01_k».proof.Proof.Steps

@[expose] public section

set_option maxRecDepth 16384

noncomputable section

namespace Cert.Walk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- A point is the first of its tile of rows: the body's own test of the second grid coordinate. -/
abbrev first2 (i : grid2.Coords) : Prop := (Scalar.cmpi .ne (Scalar.extui (Scalar.cmpi .eq (BitVec.ofNat 32 (i 1).val) 0#32)) 0#32) = 1#1

/-- What the second walk's chunk starts from: the column handed in at a tile's first point, else the scratch. -/
def start2 (i : grid2.Coords) (x5 d : Vec F S512x1 .bf16) : FVec F S512x1 .bf16 :=
  if first2 i then x5 else d

set_option maxHeartbeats 4000000 in
/-- The second walk's body at a point: from input blocks `x0` … `x5` and scratch contents `d`, it leaves the chunk's scores
    in the output block and what its last step hands over in both the scratch and the second output. -/
theorem body2 (c : Dev nD) (E : Set ℕ) (i : grid2.Coords) (arg2 : Memref sig .tc .vmem S6x512x20 .f32) (harg2 : arg2.IsWhole) (arg3 : Memref sig .tc .vmem S512x1024 .f32) (harg3 : arg3.IsWhole) (arg4 : Memref sig .tc .vmem S1044x1024 .f32) (harg4 : arg4.IsWhole) (arg5 : Memref sig .tc .vmem S1024x27 .f32) (harg5 : arg5.IsWhole) (arg6 : Memref sig .tc .vmem S1x27 .f32) (harg6 : arg6.IsWhole) (arg7 : Memref sig .tc .vmem S512x1 .bf16) (harg7 : arg7.IsWhole) (arg8 : Memref sig .tc .vmem S6x512x27 .f32) (harg8 : arg8.IsWhole) (arg9 : Memref sig .tc .vmem S512x1 .bf16) (harg9 : arg9.IsWhole) (arg10 : Memref sig .tc .vmem S512x1 .bf16) (harg10 : arg10.IsWhole)
    (x0 : Vec F S6x512x20 .f32) (x1 : Vec F S512x1024 .f32) (x2 : Vec F S1044x1024 .f32) (x3 : Vec F S1024x27 .f32) (x4 : Vec F S1x27 .f32) (x5 d : Vec F S512x1 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ e, owns (c : Thread nD τ) arg8 fullShare e) ∗ (∃ e, owns (c : Thread nD τ) arg9 fullShare e) ∗ owns (c : Thread nD τ) arg10 fullShare d
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (chunkOut x0 x1 x2 x3 x4 (start2 i x5 d))
            ∗ owns (c : Thread nD τ) arg9 fullShare (carried x0 x1 x2 x3 x4 (start2 i x5 d) 6)
            ∗ owns (c : Thread nD τ) arg10 fullShare (carried x0 x1 x2 x3 x4 (start2 i x5 d) 6)) -∗ K ⟨⟩))
      ⊢ wp frame (wpE (defs₀ (F := F)) Variants.none c none) E (cc2_walk_loop i arg2 harg2 arg3 harg3 arg4 harg4 arg5 harg5 arg6 harg6 arg7 harg7 arg8 harg8 arg9 harg9 arg10 harg10) K := by
  simp only [cc2_walk_loop_eq_skeleton]; unfold cc2_walk_loop_skel
  simp only [k2_part1_eq_skeleton, k2_part2_eq_skeleton, k2_part3_eq_skeleton]
  unfold owns start2
  by_cases hc : first2 i
  · rw [if_pos hc]
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
    subst hf0 hf1 hf2 hf3 hf4 hf5
    sl_exec (disch := first | sl_exact hc)
    have hv : body2.sl.v3 c arg7 arg10 f5 = View.read (Elt F) arg7.view f5 := by
      delta body2.sl.v3 body2.sl.H8_1
      refine (View.readCov_eq_canon_ld _ _ _ (cover_prev _)).trans ((congrArg (fun w => View.ld w rPrev) (canon_prev _ [])).trans ((ld_prev _).trans ((reset2 _).trans (ld_prev _))))
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; isplitr
      swap; · iexact H6
      ipureintro
      refine Eq.trans (congrArg (fun L => View.read (Elt F) arg8.view (arg8.view.writes (Elt F) f6 L)) ?_) (leaves_out arg8.view f6 _ _ _ _ _ _)
      delta body2.sl.r_7 body2.sl.r_6 body2.sl.r_5 body2.sl.r_4 body2.sl.r_3 body2.sl.r_2 body2.sl.r_1 body2.sl.r
      simp only [same1, same2, same3, same4, same6, same7, same8, same9, same10, same11, same12, same13, same14, same15, same16, same17, same18, same19, same20, same21, pay2_step, pay1_step, pay10_step, pay9_step, pay11_step, pay14_step, pay15_step, pay16_step, pay17_step, pay18_step, pay19_step, pay20_step, pay21_step, View.readAt_eq_ld]
      rw [hv]
      rfl
    isplitl [H7]
    · iexists _; isplitr
      swap; · iexact H7
      ipureintro
      refine (leaves_prev arg9.view _ _ _).trans ?_
      delta body2.sl.r_7 body2.sl.r_6 body2.sl.r_5 body2.sl.r_4 body2.sl.r_3 body2.sl.r_2 body2.sl.r_1 body2.sl.r
      simp only [same1, same2, same3, same4, same6, same7, same8, same9, same10, same11, same12, same13, same14, same15, same16, same17, same18, same19, same20, same21, pay2_step, pay3_step, pay4_step, pay1_step, pay10_step, pay9_step, pay11_step, pay14_step, pay15_step, pay16_step, pay17_step, pay18_step, pay19_step, pay20_step, pay21_step, View.readAt_eq_ld]
      rw [hv]
      rfl
    iexists _; isplitr
    swap; · iexact H8
    ipureintro
    refine (leaves_prev arg10.view _ _ _).trans ?_
    delta body2.sl.r_7 body2.sl.r_6 body2.sl.r_5 body2.sl.r_4 body2.sl.r_3 body2.sl.r_2 body2.sl.r_1 body2.sl.r
    simp only [same1, same2, same3, same4, same6, same7, same8, same9, same10, same11, same12, same13, same14, same15, same16, same17, same18, same19, same20, same21, pay2_step, pay3_step, pay4_step, pay1_step, pay10_step, pay9_step, pay11_step, pay14_step, pay15_step, pay16_step, pay17_step, pay18_step, pay19_step, pay20_step, pay21_step, View.readAt_eq_ld]
    rw [hv]
    rfl
  · rw [if_neg hc]
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
    subst hf0 hf1 hf2 hf3 hf4 hf5 hf8
    sl_exec (disch := first | sl_exact hc)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; isplitr
      swap; · iexact H6
      ipureintro
      refine Eq.trans (congrArg (fun L => View.read (Elt F) arg8.view (arg8.view.writes (Elt F) f6 L)) ?_) (leaves_out arg8.view f6 _ _ _ _ _ _)
      delta body2.sl.r_15 body2.sl.r_14 body2.sl.r_13 body2.sl.r_12 body2.sl.r_11 body2.sl.r_10 body2.sl.r_9 body2.sl.r_8
      simp only [same1, same2, same3, same4, same6, same7, same8, same9, same10, same11, same12, same13, same14, same15, same16, same17, same18, same19, same20, same21, pay2_step, pay1_step, pay10_step, pay9_step, pay11_step, pay14_step, pay15_step, pay16_step, pay17_step, pay18_step, pay19_step, pay20_step, pay21_step, View.readAt_eq_ld]
      rw [ld_prev]
      rfl
    isplitl [H7]
    · iexists _; isplitr
      swap; · iexact H7
      ipureintro
      refine (leaves_prev arg9.view _ _ _).trans ?_
      delta body2.sl.r_15 body2.sl.r_14 body2.sl.r_13 body2.sl.r_12 body2.sl.r_11 body2.sl.r_10 body2.sl.r_9 body2.sl.r_8
      simp only [same1, same2, same3, same4, same6, same7, same8, same9, same10, same11, same12, same13, same14, same15, same16, same17, same18, same19, same20, same21, pay2_step, pay3_step, pay4_step, pay1_step, pay10_step, pay9_step, pay11_step, pay14_step, pay15_step, pay16_step, pay17_step, pay18_step, pay19_step, pay20_step, pay21_step, View.readAt_eq_ld]
      rw [ld_prev]
      rfl
    iexists _; isplitr
    swap; · iexact H8
    ipureintro
    refine (leaves_prev arg10.view _ _ _).trans ?_
    delta body2.sl.r_15 body2.sl.r_14 body2.sl.r_13 body2.sl.r_12 body2.sl.r_11 body2.sl.r_10 body2.sl.r_9 body2.sl.r_8
    simp only [same1, same2, same3, same4, same6, same7, same8, same9, same10, same11, same12, same13, same14, same15, same16, same17, same18, same19, same20, same21, pay2_step, pay3_step, pay4_step, pay1_step, pay10_step, pay9_step, pay11_step, pay14_step, pay15_step, pay16_step, pay17_step, pay18_step, pay19_step, pay20_step, pay21_step, View.readAt_eq_ld]
    rw [ld_prev]
    rfl

end Cert.Walk

end
-- ==== Proof.Region2.lean ====
/- The second walk as a pipeline: what its scratch carries from point to point, its proof data and its obligation. -/
module

public import proofs.«01_k».proof.Proof.Windows
public import proofs.«01_k».proof.Proof.Walk2

@[expose] public section

set_option maxRecDepth 16384

noncomputable section

namespace Cert.Walk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The points -/

/-- A point is the first of its tile of rows when its number is a multiple of seven. -/
theorem first2_iff : ∀ t : Fin cfg2.N, first2 (grid2.coords t) ↔ t.val % 7 = 0 :=
  (fun t => by
    have ht : t.val < 14 := Nat.lt_of_lt_of_eq t.isLt N_2
    have e1 : (grid2.coords t 1).val = t.val / 1 % 7 := Pipeline.Grid.coords_val t 1 (by decide) rfl
    simp only [first2, e1]
    word_cmp
   : ∀ t : Fin grid2.N, first2 (grid2.coords t) ↔ t.val % 7 = 0)

/-! ## The windows' blocks -/

variable (V : (c : Dev nD) → (b : Ref sig .tc) → Buf (Elt F) ((c : Thread nD τ).loc b))

/-- Window `w`'s block at point `t`, of the array as the region finds it. -/
def tile2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input rows' buffer at point `t`: its block, over anything (85 rows are no multiple of six, so the block's shape may
    be cut; it never is). -/
def rows2 (c : Dev nD) (t : Fin cfg2.N) : (cfg2.win 0).block.Idx → Elt F (cfg2.win 0).elt :=
  (cfg2.win 0).fill (cfg2.grid.coords t) (fun _ => Classical.choice inferInstance) (tile2 V c 0 t)

/-- No block of the input rows is cut at any point. -/
theorem uncut2 : ∀ t : Fin cfg2.N, ∀ a, (cfg2.win 0).xsize (cfg2.grid.coords t) a = (cfg2.win 0).size a := by decide +kernel

/-- So the fetch fills every index of its buffer. -/
theorem moved2 (t : Fin cfg2.N) (j : (cfg2.win 0).block.Idx) : (cfg2.win 0).moved (cfg2.grid.coords t) j = true :=
  ((cfg2.win 0).moved_iff _ j).mpr fun a => by rw [uncut2 t a]; exact (j a).isLt

/-- Filling the buffer with a block leaves the same whatever it held. -/
theorem fills2 (t : Fin cfg2.N) (d d' : (cfg2.win 0).block.Idx → Elt F (cfg2.win 0).elt) (g) :
    (cfg2.win 0).fill (cfg2.grid.coords t) d g = (cfg2.win 0).fill (cfg2.grid.coords t) d' g := by
  funext j; unfold Pipeline.Window.fill; rw [dif_pos (moved2 t j), dif_pos (moved2 t j)]

/-! ## What the scratch carries -/

/-- What the body at point `t` hands over from scratch contents `d`. -/
def handed2 (c : Dev nD) (t : Fin cfg2.N) (d : FVec F S512x1 .bf16) : FVec F S512x1 .bf16 :=
  carried (rows2 V c t) (tile2 V c 1 t) (tile2 V c 2 t) (tile2 V c 3 t) (tile2 V c 4 t) (start2 (grid2.coords t) (tile2 V c 5 t) d) 6

/-- The scratch after `n` points. -/
def left2 (c : Dev nD) : ℕ → FVec F S512x1 .bf16
  | 0 => constant S512x1 .bf16 0x0000#16
  | n + 1 => if h : n < cfg2.N then handed2 V c ⟨n, h⟩ (left2 c n) else left2 c n

theorem left2_succ (c : Dev nD) (t : Fin cfg2.N) : left2 V c (t.val + 1) = handed2 V c t (left2 V c t.val) := by
  rw [left2, dif_pos t.isLt]

/-- Every input's buffer stays at its block; the outputs' are left at the chunk's scores and at what it hands over; between
    points the scratch holds what the point before handed over. -/
def dat2 (c : Dev nD) : Dat τ (Elt F) Unit ℕ (UR sig nD τ) ℕ cfg2 c where
  A w := V c (Pipeline.arrRef spec2 w)
  after w t := match w with
    | ⟨0, _⟩ => rows2 V c t
    | ⟨1, _⟩ => tile2 V c 1 t
    | ⟨2, _⟩ => tile2 V c 2 t
    | ⟨3, _⟩ => tile2 V c 3 t
    | ⟨4, _⟩ => tile2 V c 4 t
    | ⟨5, _⟩ => tile2 V c 5 t
    | ⟨6, _⟩ => chunkOut (rows2 V c t) (tile2 V c 1 t) (tile2 V c 2 t) (tile2 V c 3 t) (tile2 V c 4 t) (start2 (grid2.coords t) (tile2 V c 5 t) (left2 V c t.val))
    | ⟨7, _⟩ => handed2 V c t (left2 V c t.val)
  Φ t := iprop((∃ d, ⌜t.val ≠ 0 → d = left2 V c t.val⌝ ∗ owns (c : Thread nD τ) (Memref.whole cc2_scratch0) fullShare d)
    ∗ Pipeline.scopedRestBut (Ix := Unit) (Name := ℕ) (U := UR sig nD τ) (Lvl := ℕ) (Val := Elt F) spec2 c [cc2_scratch0]
    ∗ ∃ r, prngReg c r)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = rows2 V c t := by dsimp only [dat2]
theorem after2_1 (c : Dev nD) (t : Fin cfg2.N) : (dat2 V c).after 1 t = tile2 V c 1 t := by dsimp only [dat2]
theorem after2_2 (c : Dev nD) (t : Fin cfg2.N) : (dat2 V c).after 2 t = tile2 V c 2 t := by dsimp only [dat2]
theorem after2_3 (c : Dev nD) (t : Fin cfg2.N) : (dat2 V c).after 3 t = tile2 V c 3 t := by dsimp only [dat2]
theorem after2_4 (c : Dev nD) (t : Fin cfg2.N) : (dat2 V c).after 4 t = tile2 V c 4 t := by dsimp only [dat2]
theorem after2_5 (c : Dev nD) (t : Fin cfg2.N) : (dat2 V c).after 5 t = tile2 V c 5 t := by dsimp only [dat2]
theorem after2_6 (c : Dev nD) (t : Fin cfg2.N) : (dat2 V c).after 6 t = chunkOut (rows2 V c t) (tile2 V c 1 t) (tile2 V c 2 t) (tile2 V c 3 t) (tile2 V c 4 t) (start2 (grid2.coords t) (tile2 V c 5 t) (left2 V c t.val)) := by
  dsimp only [dat2]
theorem after2_7 (c : Dev nD) (t : Fin cfg2.N) : (dat2 V c).after 7 t = handed2 V c t (left2 V c t.val) := by
  dsimp only [dat2]

theorem before2_0 (c : Dev nD) (t : Fin cfg2.N) (d) : (dat2 V c).before 0 t d = rows2 V c t :=
  ((dat2 V c).before_fetched 0 t (fetch2_0 t) d).trans (fills2 t _ _ _)
theorem before2_1 (c : Dev nD) (t : Fin cfg2.N) (d) : (dat2 V c).before 1 t d = tile2 V c 1 t :=
  (held (dat2 V c) 1 rfl (fun _ => rfl) (fun _ _ _ => rfl) (fun _ => rfl) (fun _ _ => rfl) t d).trans (after2_1 V c t)
theorem before2_2 (c : Dev nD) (t : Fin cfg2.N) (d) : (dat2 V c).before 2 t d = tile2 V c 2 t :=
  (held (dat2 V c) 2 rfl (fun _ => rfl) (fun _ _ _ => rfl) (fun _ => rfl) (fun _ _ => rfl) t d).trans (after2_2 V c t)
theorem before2_3 (c : Dev nD) (t : Fin cfg2.N) (d) : (dat2 V c).before 3 t d = tile2 V c 3 t :=
  (held (dat2 V c) 3 rfl (fun _ => rfl) (fun _ _ _ => rfl) (fun _ => rfl) (fun _ _ => rfl) t d).trans (after2_3 V c t)
theorem before2_4 (c : Dev nD) (t : Fin cfg2.N) (d) : (dat2 V c).before 4 t d = tile2 V c 4 t :=
  (held (dat2 V c) 4 rfl (fun _ => rfl) (fun _ _ _ => rfl) (fun _ => rfl) (fun _ _ => rfl) t d).trans (after2_4 V c t)
theorem before2_5 (c : Dev nD) (t : Fin cfg2.N) (d) : (dat2 V c).before 5 t d = tile2 V c 5 t :=
  (held (dat2 V c) 5 rfl (fun _ => rfl) (fun _ _ _ => rfl) (fun _ => rfl) (fun _ _ => rfl) t d).trans (after2_5 V c t)

/-- The body at a point starts from what the point before handed over, or resets the scratch. -/
theorem start2_of (c : Dev nD) (t : Fin cfg2.N) (d : FVec F S512x1 .bf16) (h : t.val ≠ 0 → d = left2 V c t.val) :
    start2 (grid2.coords t) (tile2 V c 5 t) d = start2 (grid2.coords t) (tile2 V c 5 t) (left2 V c t.val) := by
  by_cases h0 : t.val = 0
  · have hf : first2 (grid2.coords t) := (first2_iff t).mpr (by rw [h0])
    unfold start2; rw [if_pos hf, if_pos hf]
  · rw [h h0]

/-- The body table's row at point `t`'s slots is the body there. -/
theorem row2 (t : Fin cfg2.N) : defs₀ (F := F) .tc cfg2.body (cfg2.bodyArgs t (cfg2.slots t)) = bodyAt2 t := by
  unfold defs₀; rw [Defs.onTc_tc]

/-- The body at point `t`, from the windows' buffers as the pipeline hands them over to what it takes back. -/
theorem point2 (c : Dev nD) (t : Fin cfg2.N) :
    iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))
    ⊢ wp frame (wpE (defs₀ (F := F)) Variants.none c none) Set.univ (bodyAt2 t) (fun _ =>
      iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))) := by
  unfold bodyAt2
  simp only [before2_0, before2_1, before2_2, before2_3, before2_4, before2_5]
  rw [show (dat2 V c).owesAt () t.succ = (dat2 V c).owesAt () t.castSucc from rfl,
    after2_0, after2_1, after2_2, after2_3, after2_4, after2_5, after2_6, after2_7]
  dsimp only [dat2]
  iintro ⟨⟨⟨%d, %hd, HS⟩, Hr, Hp⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body2 c Set.univ (grid2.coords t) _ _ _ _ _ _ _ _ _ _ _ _ _ _ _ _ _ _ (rows2 V c t) (tile2 V c 1 t) (tile2 V c 2 t) (tile2 V c 3 t) (tile2 V c 4 t) (tile2 V c 5 t) d _)
  rw [start2_of V c t d hd]
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS]; · iexact HS
  iintro ⟨H0, H1, H2, H3, H4, H5, H6, H7, HS⟩
  isplitl [HS Hr Hp]
  · isplitl [HS]
    · iexists _; isplitr
      swap; · iexact HS
      ipureintro
      exact fun _ => (left2_succ V c t).symm
    isplitl [Hr]; · iexact Hr
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The region's body obligation. -/
theorem oblig2 (c : Dev nD) : BodyObligation (dat2 (F := F) V c) (defs₀ (F := F)) Variants.none () Set.univ := fun t => by
  rw [bigSep_W2, bigSep_W2, row2]
  exact triple_restated (point2 V c t) rfl .rfl fun _ => .rfl

/-- At the region's entry the scratch may hold anything. -/
theorem enter2 (c : Dev nD) : iprop((∃ r, prngReg c r) ∗ Pipeline.scopedRest (Ix := Unit) (Name := ℕ) (U := UR sig nD τ) (Lvl := ℕ) (Val := Elt F) spec2 c)
    ⊢ ((dat2 V c).Φ 0 : sProp 𝕄) := by
  rw [scopedRest2_split]
  dsimp only [dat2]
  simp only [owns_whole]
  iintro ⟨Hp, ⟨%f, Hf⟩, Hr⟩
  isplitl [Hf]
  · iexists f; isplitr
    · ipureintro; exact fun h => absurd rfl h
    iexact Hf
  isplitl [Hr]; · iexact Hr
  iexact Hp

/-- At its exit what the scratch holds is forgotten. -/
theorem leave2 (c : Dev nD) : ((dat2 V c).Φ (Fin.last cfg2.N) : sProp 𝕄)
    ⊢ iprop((∃ r, prngReg c r) ∗ Pipeline.scopedRest (Ix := Unit) (Name := ℕ) (U := UR sig nD τ) (Lvl := ℕ) (Val := Elt F) spec2 c) := by
  rw [scopedRest2_split]
  dsimp only [dat2]
  simp only [owns_whole]
  iintro ⟨⟨%f, -, Hf⟩, Hr, Hp⟩
  isplitl [Hp]; · iexact Hp
  isplitl [Hf]
  · iexists f; iexact Hf
  iexact Hr

end Cert.Walk

end
-- ==== Proof.Run.lean ====
/- The run: the buffers' contents between the host stretches and the three regions, the regions as segments, and the launch.
   Every execution ends with the arguments as launched, the counters at zero and the result at the last contents. -/
module

public import proofs.«01_k».proof.Proof.Base
public import proofs.«01_k».proof.Proof.Region1
public import proofs.«01_k».proof.Proof.Region2
public import proofs.«01_k».proof.Proof.Gen.KernelIdeal.Regions

@[expose] public section

set_option maxRecDepth 16384

noncomputable section

namespace Cert.Walk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays. -/
abbrev args : List (Ref sig .tc) := [main_arg0, main_arg1, main_arg2, main_arg3, main_arg4, main_arg5, main_arg6, main_arg7, main_arg8, main_arg9]

/-- The buffers at launch. -/
abbrev at0 : Dev nD → Valuation τ sig (Elt F) := fun c b => (s₀ m ρ).mem ((c : Dev nD), b)
theorem at0_args (c : Dev nD) : ∀ a ∈ args, at0 m ρ c (Proc.devRef .tc a) = m ((c : Thread nD τ).loc a) := fun _ _ => rfl

/-- After the host stretch `hostOps0`. -/
abbrev at1 : Dev nD → Valuation τ sig (Elt F) := fun c => StableHlo.after hostOps0 (at0 m ρ c)

theorem at1_of (c : Dev nD) (r : Ref sig .tc) (h : r ∉ hostOps0_W) : at1 m ρ c (Proc.devRef .tc r) = at0 m ρ c (Proc.devRef .tc r) :=
  StableHlo.after_of_writes_sub hostOps0 _ hostOps0_writes h

theorem at1_args (c : Dev nD) : ∀ a ∈ args, at1 m ρ c (Proc.devRef .tc a) = m ((c : Thread nD τ).loc a) :=
  fun a ha => (at1_of m ρ c a ((ListAll.forall_mem_of_all_decide (by decide +kernel) : ∀ a ∈ args, a ∉ hostOps0_W) a ha)).trans (at0_args m ρ c a ha)

/-! ## Region 0: from `at1` to `at2` -/

/-- The contents region 0 is entered from, at the references its proof data take. -/
abbrev enter0At : (c : Dev nD) → (b : Ref sig .tc) → Buf (Elt F) ((c : Thread nD τ).loc b) := fun c b => at1 m ρ c b

/-- After region 0: its arrays at what the pipeline leaves in them, every other buffer as it was. -/
def at2 (c : Dev nD) : Valuation τ sig (Elt F) :=
  Pipeline.withArrays spec0 c (at1 m ρ c) fun w => (dat0 (enter0At m ρ) c).arrAt w cfg0.N

theorem at2_arr (c : Dev nD) (w : Fin cfg0.W) :
    at2 m ρ c (Proc.devRef .tc (Pipeline.arrRef spec0 w)) = (dat0 (enter0At m ρ) c).arrAt w cfg0.N := by
  unfold at2; exact Pipeline.withArrays_arr spec0 launch0.win.arr_inj c _ _ w

theorem at2_ne (c : Dev nD) (b : Ref sig .tc) (hb : ∀ w, Pipeline.arrRef spec0 w ≠ b) :
    at2 m ρ c (Proc.devRef .tc b) = at1 m ρ c (Proc.devRef .tc b) := by
  unfold at2; exact Pipeline.withArrays_of_ne spec0 c _ _ b hb

/-- A reference that is no output array of region 0 keeps its contents across it. -/
theorem at2_of (c : Dev nD) (r : Ref sig .tc) (h : ∀ w : Fin cfg0.W, Pipeline.arrRef spec0 w = r → (cfg0.win w).isOut = false) :
    at2 m ρ c (Proc.devRef .tc r) = at1 m ρ c (Proc.devRef .tc r) := by
  by_cases hw : ∃ w : Fin cfg0.W, Pipeline.arrRef spec0 w = r
  · obtain ⟨w, rfl⟩ := hw
    exact (at2_arr m ρ c w).trans (((dat0 (enter0At m ρ) c).arrAt_in w (h w rfl) _).trans (A_eq0 (enter0At m ρ) c w))
  · exact at2_ne m ρ c r fun w e => hw ⟨w, e⟩

/-- No argument is an output array of region 0. -/
theorem argsIn0 : ∀ a ∈ args, ∀ w : Fin cfg0.W, Pipeline.arrRef spec0 w = a → (cfg0.win w).isOut = false :=
  ListAll.forall_mem_of_all_decide (by decide +kernel)

theorem at2_args (c : Dev nD) : ∀ a ∈ args, at2 m ρ c (Proc.devRef .tc a) = m ((c : Thread nD τ).loc a) :=
  fun a ha => (at2_of m ρ c a (argsIn0 a ha)).trans (at1_args m ρ c a ha)

abbrev exit0At : (c : Dev nD) → (b : Ref sig .tc) → Buf (Elt F) ((c : Thread nD τ).loc b) := fun c b => at2 m ρ c b

theorem arrays0 (c : Dev nD) (w : Fin cfg0.W) : (dat0 (enter0At m ρ) c).arrAt w cfg0.N = exit0At m ρ c (Pipeline.arrRef spec0 w) :=
  (at2_arr m ρ c w).symm

theorem others0 (c : Dev nD) : ∀ b, b ∉ Finset.univ.image (Pipeline.arrRef spec0) → exit0At m ρ c b = enter0At m ρ c b :=
  fun b hb => at2_ne m ρ c b fun w e => hb (Finset.mem_image.mpr ⟨w, Finset.mem_univ _, e⟩)

/-- After the host stretch `hostOps1`. -/
abbrev at3 : Dev nD → Valuation τ sig (Elt F) := fun c => StableHlo.after hostOps1 (at2 m ρ c)

theorem at3_of (c : Dev nD) (r : Ref sig .tc) (h : r ∉ hostOps1_W) : at3 m ρ c (Proc.devRef .tc r) = at2 m ρ c (Proc.devRef .tc r) :=
  StableHlo.after_of_writes_sub hostOps1 _ hostOps1_writes h

theorem at3_args (c : Dev nD) : ∀ a ∈ args, at3 m ρ c (Proc.devRef .tc a) = m ((c : Thread nD τ).loc a) :=
  fun a ha => (at3_of m ρ c a ((ListAll.forall_mem_of_all_decide (by decide +kernel) : ∀ a ∈ args, a ∉ hostOps1_W) a ha)).trans (at2_args m ρ c a ha)

/-! ## Region 1: from `at3` to `at4` -/

/-- The contents region 1 is entered from, at the references its proof data take. -/
abbrev enter1At : (c : Dev nD) → (b : Ref sig .tc) → Buf (Elt F) ((c : Thread nD τ).loc b) := fun c b => at3 m ρ c b

/-- After region 1: its arrays at what the pipeline leaves in them, every other buffer as it was. -/
def at4 (c : Dev nD) : Valuation τ sig (Elt F) :=
  Pipeline.withArrays spec1 c (at3 m ρ c) fun w => (dat1 (enter1At m ρ) c).arrAt w cfg1.N

theorem at4_arr (c : Dev nD) (w : Fin cfg1.W) :
    at4 m ρ c (Proc.devRef .tc (Pipeline.arrRef spec1 w)) = (dat1 (enter1At m ρ) c).arrAt w cfg1.N := by
  unfold at4; exact Pipeline.withArrays_arr spec1 launch1.win.arr_inj c _ _ w

theorem at4_ne (c : Dev nD) (b : Ref sig .tc) (hb : ∀ w, Pipeline.arrRef spec1 w ≠ b) :
    at4 m ρ c (Proc.devRef .tc b) = at3 m ρ c (Proc.devRef .tc b) := by
  unfold at4; exact Pipeline.withArrays_of_ne spec1 c _ _ b hb

/-- A reference that is no output array of region 1 keeps its contents across it. -/
theorem at4_of (c : Dev nD) (r : Ref sig .tc) (h : ∀ w : Fin cfg1.W, Pipeline.arrRef spec1 w = r → (cfg1.win w).isOut = false) :
    at4 m ρ c (Proc.devRef .tc r) = at3 m ρ c (Proc.devRef .tc r) := by
  by_cases hw : ∃ w : Fin cfg1.W, Pipeline.arrRef spec1 w = r
  · obtain ⟨w, rfl⟩ := hw
    exact (at4_arr m ρ c w).trans (((dat1 (enter1At m ρ) c).arrAt_in w (h w rfl) _).trans (A_eq1 (enter1At m ρ) c w))
  · exact at4_ne m ρ c r fun w e => hw ⟨w, e⟩

/-- No argument is an output array of region 1. -/
theorem argsIn1 : ∀ a ∈ args, ∀ w : Fin cfg1.W, Pipeline.arrRef spec1 w = a → (cfg1.win w).isOut = false :=
  ListAll.forall_mem_of_all_decide (by decide +kernel)

theorem at4_args (c : Dev nD) : ∀ a ∈ args, at4 m ρ c (Proc.devRef .tc a) = m ((c : Thread nD τ).loc a) :=
  fun a ha => (at4_of m ρ c a (argsIn1 a ha)).trans (at3_args m ρ c a ha)

abbrev exit1At : (c : Dev nD) → (b : Ref sig .tc) → Buf (Elt F) ((c : Thread nD τ).loc b) := fun c b => at4 m ρ c b

theorem arrays1 (c : Dev nD) (w : Fin cfg1.W) : (dat1 (enter1At m ρ) c).arrAt w cfg1.N = exit1At m ρ c (Pipeline.arrRef spec1 w) :=
  (at4_arr m ρ c w).symm

theorem others1 (c : Dev nD) : ∀ b, b ∉ Finset.univ.image (Pipeline.arrRef spec1) → exit1At m ρ c b = enter1At m ρ c b :=
  fun b hb => at4_ne m ρ c b fun w e => hb (Finset.mem_image.mpr ⟨w, Finset.mem_univ _, e⟩)

/-! ## Region 2: from `at4` to `at5` -/

/-- The contents region 2 is entered from, at the references its proof data take. -/
abbrev enter2At : (c : Dev nD) → (b : Ref sig .tc) → Buf (Elt F) ((c : Thread nD τ).loc b) := fun c b => at4 m ρ c b

/-- After region 2: its arrays at what the pipeline leaves in them, every other buffer as it was. -/
def at5 (c : Dev nD) : Valuation τ sig (Elt F) :=
  Pipeline.withArrays spec2 c (at4 m ρ c) fun w => (dat2 (enter2At m ρ) c).arrAt w cfg2.N

theorem at5_arr (c : Dev nD) (w : Fin cfg2.W) :
    at5 m ρ c (Proc.devRef .tc (Pipeline.arrRef spec2 w)) = (dat2 (enter2At m ρ) c).arrAt w cfg2.N := by
  unfold at5; exact Pipeline.withArrays_arr spec2 launch2.win.arr_inj c _ _ w

theorem at5_ne (c : Dev nD) (b : Ref sig .tc) (hb : ∀ w, Pipeline.arrRef spec2 w ≠ b) :
    at5 m ρ c (Proc.devRef .tc b) = at4 m ρ c (Proc.devRef .tc b) := by
  unfold at5; exact Pipeline.withArrays_of_ne spec2 c _ _ b hb

/-- A reference that is no output array of region 2 keeps its contents across it. -/
theorem at5_of (c : Dev nD) (r : Ref sig .tc) (h : ∀ w : Fin cfg2.W, Pipeline.arrRef spec2 w = r → (cfg2.win w).isOut = false) :
    at5 m ρ c (Proc.devRef .tc r) = at4 m ρ c (Proc.devRef .tc r) := by
  by_cases hw : ∃ w : Fin cfg2.W, Pipeline.arrRef spec2 w = r
  · obtain ⟨w, rfl⟩ := hw
    exact (at5_arr m ρ c w).trans (((dat2 (enter2At m ρ) c).arrAt_in w (h w rfl) _).trans (A_eq2 (enter2At m ρ) c w))
  · exact at5_ne m ρ c r fun w e => hw ⟨w, e⟩

/-- No argument is an output array of region 2. -/
theorem argsIn2 : ∀ a ∈ args, ∀ w : Fin cfg2.W, Pipeline.arrRef spec2 w = a → (cfg2.win w).isOut = false :=
  ListAll.forall_mem_of_all_decide (by decide +kernel)

theorem at5_args (c : Dev nD) : ∀ a ∈ args, at5 m ρ c (Proc.devRef .tc a) = m ((c : Thread nD τ).loc a) :=
  fun a ha => (at5_of m ρ c a (argsIn2 a ha)).trans (at4_args m ρ c a ha)

abbrev exit2At : (c : Dev nD) → (b : Ref sig .tc) → Buf (Elt F) ((c : Thread nD τ).loc b) := fun c b => at5 m ρ c b

theorem arrays2 (c : Dev nD) (w : Fin cfg2.W) : (dat2 (enter2At m ρ) c).arrAt w cfg2.N = exit2At m ρ c (Pipeline.arrRef spec2 w) :=
  (at5_arr m ρ c w).symm

theorem others2 (c : Dev nD) : ∀ b, b ∉ Finset.univ.image (Pipeline.arrRef spec2) → exit2At m ρ c b = enter2At m ρ c b :=
  fun b hb => at5_ne m ρ c b fun w e => hb (Finset.mem_image.mpr ⟨w, Finset.mem_univ _, e⟩)

/-- After the host stretch `hostOps3`. -/
abbrev at6 : Dev nD → Valuation τ sig (Elt F) := fun c => StableHlo.after hostOps3 (at5 m ρ c)

theorem at6_of (c : Dev nD) (r : Ref sig .tc) (h : r ∉ hostOps3_W) : at6 m ρ c (Proc.devRef .tc r) = at5 m ρ c (Proc.devRef .tc r) :=
  StableHlo.after_of_writes_sub hostOps3 _ hostOps3_writes h

theorem at6_args (c : Dev nD) : ∀ a ∈ args, at6 m ρ c (Proc.devRef .tc a) = m ((c : Thread nD τ).loc a) :=
  fun a ha => (at6_of m ρ c a ((ListAll.forall_mem_of_all_decide (by decide +kernel) : ∀ a ∈ args, a ∉ hostOps3_W) a ha)).trans (at5_args m ρ c a ha)

/-! ## The segments -/

/-- Every region's proof data, at the contents it is entered from. -/
def pdats : (p : Fin 3) → (c : Dev nD) → Dat τ (Elt F) Unit ℕ (UR sig nD τ) ℕ (Pipeline.pin (pcfgs (F := F)) adm p) c
  | ⟨0, _⟩ => fun c => dat0 (enter0At m ρ) c
  | ⟨1, _⟩ => fun c => dat1 (enter1At m ρ) c
  | ⟨2, _⟩ => fun c => dat2 (enter2At m ρ) c

/-- No core owes another anything. -/
abbrev lvls : GSem nD τ sig → Finset Unit := fun _ => ∅
abbrev lv : GSem nD τ sig → Unit → ℕ := fun _ _ => 0

/-- What rides beside the buffers: the core's generator register, and that it owes nothing. -/
abbrev beside (c : Dev nD) : sProp 𝕄 := iprop((∃ r, prngReg c r) ∗ ∃ W, owes (c : Thread nD τ) (0 : CellTallies nD τ sig Unit) W)

/-- A host stretch as a segment. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none lvls lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state. -/
abbrev final (c : Dev nD) : sProp 𝕄 := iprop(StableHlo.held (c : Thread nD τ) (Pipeline.ucRefs τ sig) (at6 m ρ c) ∗ ∃ r, prngReg c r)

set_option backward.isDefEq.respectTransparency.types false in
/-- Region 0 over the thread state: its arrays are split out of the unscoped buffers and put back at what it leaves. -/
def reg0 : Pipeline.RegionSeg (pcfgs (F := F)) adm (pdats m ρ) () defs₀ Variants.none lvls lv 0 where
  win := launch0.win.to₀
  block_pos := launch0.block_pos
  stage_whole := launch0.stage_whole
  K := PEmpty
  osem k := k.elim
  ho := Pipeline.OwnSemFacts.none _
  hbody c := (oblig0 (enter0At m ρ) c).loose
  hwaits := Pipeline.hwaits_of_owed_zero _ _ _ _ lvls lv 0 fun _ _ => rfl
  pre c := iprop(StableHlo.held (c : Thread nD τ) (Pipeline.ucRefs τ sig) (at1 m ρ c) ∗ beside c)
  post c := iprop(StableHlo.held (c : Thread nD τ) (Pipeline.ucRefs τ sig) (at2 m ρ c) ∗ beside c)
  X c := iprop(∃ r, prngReg c r)
  Y c := iprop(∃ r, prngReg c r)
  Z c := Pipeline.unscopedRest (Ix := Unit) (Name := ℕ) (U := UR sig nD τ) (Lvl := ℕ) spec0 c (enter0At m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (enter0At m ρ c) (A_eq0 (enter0At m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (enter0At m ρ c) (exit0At m ρ c) ((pdats m ρ 0 c).arrAt · cfg0.N) (arrays0 m ρ c) (others0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays are split out of the unscoped buffers and put back at what it leaves. -/
def reg1 : Pipeline.RegionSeg (pcfgs (F := F)) adm (pdats m ρ) () defs₀ Variants.none lvls lv 1 where
  win := launch1.win.to₀
  block_pos := launch1.block_pos
  stage_whole := launch1.stage_whole
  K := PEmpty
  osem k := k.elim
  ho := Pipeline.OwnSemFacts.none _
  hbody c := (oblig1 (enter1At m ρ) c).loose
  hwaits := Pipeline.hwaits_of_owed_zero _ _ _ _ lvls lv 1 fun _ _ => rfl
  pre c := iprop(StableHlo.held (c : Thread nD τ) (Pipeline.ucRefs τ sig) (at3 m ρ c) ∗ beside c)
  post c := iprop(StableHlo.held (c : Thread nD τ) (Pipeline.ucRefs τ sig) (at4 m ρ c) ∗ beside c)
  X c := iprop(∃ r, prngReg c r)
  Y c := iprop(∃ r, prngReg c r)
  Z c := Pipeline.unscopedRest (Ix := Unit) (Name := ℕ) (U := UR sig nD τ) (Lvl := ℕ) spec1 c (enter1At m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (enter1At m ρ c) (A_eq1 (enter1At m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (enter1At m ρ) c).Φ 0 from rfl]
    iintro ⟨Hp, -, Hr⟩
    iapply (enter1 (enter1At m ρ) c)
    isplitl [Hp]; · iexact Hp
    iexact Hr
  hout c := by
    rw [Pipeline.ownSems0_none, show (pdats m ρ 1 c).Φ (Fin.last _) = (dat1 (enter1At m ρ) c).Φ (Fin.last _) from rfl]
    have hl := leave1 (enter1At m ρ) c
    iintro HΦ
    ihave H := hl $$ HΦ
    icases H with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (enter1At m ρ c) (exit1At m ρ c) ((pdats m ρ 1 c).arrAt · cfg1.N) (arrays1 m ρ c) (others1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: its arrays are split out of the unscoped buffers and put back at what it leaves. -/
def reg2 : Pipeline.RegionSeg (pcfgs (F := F)) adm (pdats m ρ) () defs₀ Variants.none lvls lv 2 where
  win := launch2.win.to₀
  block_pos := launch2.block_pos
  stage_whole := launch2.stage_whole
  K := PEmpty
  osem k := k.elim
  ho := Pipeline.OwnSemFacts.none _
  hbody c := (oblig2 (enter2At m ρ) c).loose
  hwaits := Pipeline.hwaits_of_owed_zero _ _ _ _ lvls lv 2 fun _ _ => rfl
  pre c := iprop(StableHlo.held (c : Thread nD τ) (Pipeline.ucRefs τ sig) (at4 m ρ c) ∗ beside c)
  post c := iprop(StableHlo.held (c : Thread nD τ) (Pipeline.ucRefs τ sig) (at5 m ρ c) ∗ beside c)
  X c := iprop(∃ r, prngReg c r)
  Y c := iprop(∃ r, prngReg c r)
  Z c := Pipeline.unscopedRest (Ix := Unit) (Name := ℕ) (U := UR sig nD τ) (Lvl := ℕ) spec2 c (enter2At m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (enter2At m ρ c) (A_eq2 (enter2At m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (enter2At m ρ) c).Φ 0 from rfl]
    iintro ⟨Hp, -, Hr⟩
    iapply (enter2 (enter2At m ρ) c)
    isplitl [Hp]; · iexact Hp
    iexact Hr
  hout c := by
    rw [Pipeline.ownSems0_none, show (pdats m ρ 2 c).Φ (Fin.last _) = (dat2 (enter2At m ρ) c).Φ (Fin.last _) from rfl]
    have hl := leave2 (enter2At m ρ) c
    iintro HΦ
    ihave H := hl $$ HΦ
    icases H with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (enter2At m ρ c) (exit2At m ρ c) ((pdats m ρ 2 c).arrAt · cfg2.N) (arrays2 m ρ c) (others2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's six segments, in order. -/
abbrev walk : List (Pipeline.Seg (pcfgs (F := F)) adm (pdats m ρ) () defs₀ Variants.none lvls lv) :=
  [ .host (stretch hostOps0 hostOps0_sub hostOps0_fresh (at0 m ρ)),
    .region (reg0 m ρ),
    .host (stretch hostOps1 hostOps1_sub hostOps1_fresh (at2 m ρ)),
    .region (reg1 m ρ),
    .region (reg2 m ρ),
    .host (stretch hostOps3 hostOps3_sub hostOps3_fresh (at5 m ρ)) ]

theorem main_walk (c : Dev nD) : main (F := F) c = Pipeline.Seg.run (walk m ρ) := (main_chain c).trans (by chain_rfl)

/-- The arguments of core `c` in the memory `μ` are those of `m`. -/
def kept (μ : (ℓ : Loc nD τ sig) → Buf (Elt F) ℓ) (c : Dev nD) : Prop :=
  μ ((c.tc : Thread nD τ).loc main_arg0) = m ((c.tc : Thread nD τ).loc main_arg0)
    ∧ μ ((c.tc : Thread nD τ).loc main_arg1) = m ((c.tc : Thread nD τ).loc main_arg1)
    ∧ μ ((c.tc : Thread nD τ).loc main_arg2) = m ((c.tc : Thread nD τ).loc main_arg2)
    ∧ μ ((c.tc : Thread nD τ).loc main_arg3) = m ((c.tc : Thread nD τ).loc main_arg3)
    ∧ μ ((c.tc : Thread nD τ).loc main_arg4) = m ((c.tc : Thread nD τ).loc main_arg4)
    ∧ μ ((c.tc : Thread nD τ).loc main_arg5) = m ((c.tc : Thread nD τ).loc main_arg5)
    ∧ μ ((c.tc : Thread nD τ).loc main_arg6) = m ((c.tc : Thread nD τ).loc main_arg6)
    ∧ μ ((c.tc : Thread nD τ).loc main_arg7) = m ((c.tc : Thread nD τ).loc main_arg7)
    ∧ μ ((c.tc : Thread nD τ).loc main_arg8) = m ((c.tc : Thread nD τ).loc main_arg8)
    ∧ μ ((c.tc : Thread nD τ).loc main_arg9) = m ((c.tc : Thread nD τ).loc main_arg9)

set_option backward.isDefEq.respectTransparency.types false in
/-- Every weakly fair execution terminates without a fault, and at every final state the result is the last contents', the
    arguments are as launched and every counter is zero. -/
theorem run : θ_run defs (onTc (τ := τ) (main (F := F))) ⟨m, fun _ => 0, ρ⟩ (fun r =>
      (∀ c : Dev nD, r.2.mem ((c.tc : Thread nD τ).loc main_v11) = at6 m ρ c (Proc.devRef .tc main_v11) ∧ kept m r.2.mem c)
      ∧ r.2.sem = fun _ => 0) :=
  Pipeline.θ_run_regions_kit_sems (pcfgs (F := F)) adm (pdats m ρ) () cellOf_inj emb₁ defs₀ Variants.none lvls lv m ρ main (walk m ρ)
    (fun c Q => by rw [main_walk m ρ c])
    (by simp only [walk, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (at0 m ρ c) ∗ beside c)) (Tₙ := final m ρ)
    (hch := ⟨fun _ => .rfl, fun _ => .rfl, fun _ => .rfl, fun _ => .rfl, fun _ => .rfl, fun _ => .rfl, fun c => by
      dsimp only [Pipeline.Seg.post, stretch, Pipeline.HostSeg.ofOps]
      iintro ⟨Hh, Hp, HO⟩
      isplitl [Hh Hp]
      · isplitl [Hh]; · iexact Hh
        iexact Hp
      iexact HO⟩)
    (hinit := by
      refine Pipeline.initEach lvls lv fun c => ?_
      rw [show unscopedBufs c (fun b => m ((c : Thread nD τ).loc b)) = StableHlo.held (c : Thread nD τ) (Pipeline.ucRefs τ sig) (at0 m ρ c)
        from Pipeline.unscopedBufs_held c (at0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = at6 m ρ c b)
    (hfin := fun c s' => by
      iintro ⟨⟨Hh, -⟩, HSI⟩
      unfold StableHlo.held
      imodintro
      iapply (pointsTo_read_all (Pipeline.ucRefs τ sig) (fun b => (((c : Thread nD τ)).1, b)) (at6 m ρ c) s')
      isplitl [Hh] <;> iassumption)
    (hQ := fun s h hz => ⟨fun c => ⟨h c _ (mem_uc main_v11 (by decide)),
      (h c _ (mem_uc main_arg0 (by decide))).trans (at6_args m ρ c main_arg0 (by decide)),
      (h c _ (mem_uc main_arg1 (by decide))).trans (at6_args m ρ c main_arg1 (by decide)),
      (h c _ (mem_uc main_arg2 (by decide))).trans (at6_args m ρ c main_arg2 (by decide)),
      (h c _ (mem_uc main_arg3 (by decide))).trans (at6_args m ρ c main_arg3 (by decide)),
      (h c _ (mem_uc main_arg4 (by decide))).trans (at6_args m ρ c main_arg4 (by decide)),
      (h c _ (mem_uc main_arg5 (by decide))).trans (at6_args m ρ c main_arg5 (by decide)),
      (h c _ (mem_uc main_arg6 (by decide))).trans (at6_args m ρ c main_arg6 (by decide)),
      (h c _ (mem_uc main_arg7 (by decide))).trans (at6_args m ρ c main_arg7 (by decide)),
      (h c _ (mem_uc main_arg8 (by decide))).trans (at6_args m ρ c main_arg8 (by decide)),
      (h c _ (mem_uc main_arg9 (by decide))).trans (at6_args m ρ c main_arg9 (by decide))⟩,
      funext fun g => hz g (.inr (regions_no_unscoped g.2))⟩)

end Cert.Walk

end
-- ==== Proof.RefRun.lean ====
/- The reference's run: a reference the program never writes keeps its launch contents, so the arguments end as launched. -/
module

public import proofs.«01_k».proof.Proof.Gen.ReferenceIdeal.Run
public import Idealize.ShloMosaic.Lib.Quiescent

@[expose] public section

set_option maxRecDepth 16384

noncomputable section

namespace Cert.WalkRef

open Idealize.ShloMosaic Idealize.ShloMosaic.TcCoe Idealize.ShloMosaic.StableHlo Idealize.SL.Sem
open Cert.ReferenceIdeal Cert.ReferenceIdeal.Gen Cert.ReferenceIdeal.Value

variable {F : FTy → Type} [FloatOps F]
variable (m : (ℓ : Loc nD τ sig) → Buf (Elt F) ℓ) (ρ : Dev nD → PrngReg)

/-- Every reference the loop writes, its condition included. -/
abbrev loopW : List (Ref sig .tc) := condOps_W ++ while0Ops0_W ++ while0Ops0_1_W ++ while0Ops0_2_W ++ while0Ops0_3_W

/-- A reference the loop never writes holds before every trip what it held at the loop's entry. -/
theorem atK_keep (c : Dev nD) (r : Ref sig .tc) (h : r ∉ loopW) : ∀ k, atK m k c (Proc.devRef .tc r) = entryContents preI m c (Proc.devRef .tc r)
  | 0 => rfl
  | k + 1 => by
    have hr := h
    simp only [loopW, List.mem_append, not_or] at h
    obtain ⟨⟨⟨⟨h0, h1⟩, h2⟩, h3⟩, h4⟩ := h
    show after while0Ops0_3 (after while0Ops0_2 (after while0Ops0_1 (after while0Ops0 (after condOps (atK m k c))))) (Proc.devRef .tc r) = _
    rw [after_of_writes_sub while0Ops0_3 _ while0Ops0_3_writes h4, after_of_writes_sub while0Ops0_2 _ while0Ops0_2_writes h3,
      after_of_writes_sub while0Ops0_1 _ while0Ops0_1_writes h2, after_of_writes_sub while0Ops0 _ while0Ops0_writes h1,
      after_of_writes_sub condOps _ condOps_writes h0, atK_keep c r hr k]

/-- The references the stretch after the loop writes. -/
abbrev postW : List (Ref sig .tc) := [main_v29, main_v30, main_v31]
theorem post_writes : (hostOps0_1 : List (HloOp τ sig (Elt F))).Forall fun op => op.writes ⊆ (postW.map (Proc.devRef (τ := τ) .tc)).toFinset :=
  StableHlo.forall_writes_sub_of_map rfl

/-- The contents at the end of the program. -/
abbrev ending (c : Dev nD) : Valuation τ sig (Elt F) := finalContents condOps preI bodyI postI 83 m c

/-- The argument arrays. -/
abbrev args : List (Ref sig .tc) := [main_arg0, main_arg1, main_arg2, main_arg3, main_arg4, main_arg5, main_arg6, main_arg7, main_arg8, main_arg9]

theorem entry_args (c : Dev nD) : ∀ a ∈ args, entryContents preI m c (Proc.devRef .tc a) = m ((c.tc : Thread nD τ).loc a) := fun a ha =>
  (after_of_writes_sub hostOps0 _ hostOps0_writes ((ListAll.forall_mem_of_all_decide (by decide +kernel) : ∀ a ∈ args, a ∉ hostOps0_W) a ha)).trans rfl

/-- No argument is written. -/
theorem ending_args (c : Dev nD) : ∀ a ∈ args, ending m c (Proc.devRef .tc a) = m ((c.tc : Thread nD τ).loc a) := fun a ha =>
  (after_of_writes_sub hostOps0_1 _ post_writes ((ListAll.forall_mem_of_all_decide (by decide +kernel) : ∀ a ∈ args, a ∉ postW) a ha)).trans
  ((after_of_writes_sub condOps _ condOps_writes ((ListAll.forall_mem_of_all_decide (by decide +kernel) : ∀ a ∈ args, a ∉ condOps_W) a ha)).trans
  ((atK_keep m c a ((ListAll.forall_mem_of_all_decide (by decide +kernel) : ∀ a ∈ args, a ∉ loopW) a ha) 83).trans (entry_args m c a ha)))

/-- The arguments of core `c` in the memory `μ` are those of `m`. -/
def kept (μ : (ℓ : Loc nD τ sig) → Buf (Elt F) ℓ) (c : Dev nD) : Prop :=
  μ ((c.tc : Thread nD τ).loc main_arg0) = m ((c.tc : Thread nD τ).loc main_arg0)
    ∧ μ ((c.tc : Thread nD τ).loc main_arg1) = m ((c.tc : Thread nD τ).loc main_arg1)
    ∧ μ ((c.tc : Thread nD τ).loc main_arg2) = m ((c.tc : Thread nD τ).loc main_arg2)
    ∧ μ ((c.tc : Thread nD τ).loc main_arg3) = m ((c.tc : Thread nD τ).loc main_arg3)
    ∧ μ ((c.tc : Thread nD τ).loc main_arg4) = m ((c.tc : Thread nD τ).loc main_arg4)
    ∧ μ ((c.tc : Thread nD τ).loc main_arg5) = m ((c.tc : Thread nD τ).loc main_arg5)
    ∧ μ ((c.tc : Thread nD τ).loc main_arg6) = m ((c.tc : Thread nD τ).loc main_arg6)
    ∧ μ ((c.tc : Thread nD τ).loc main_arg7) = m ((c.tc : Thread nD τ).loc main_arg7)
    ∧ μ ((c.tc : Thread nD τ).loc main_arg8) = m ((c.tc : Thread nD τ).loc main_arg8)
    ∧ μ ((c.tc : Thread nD τ).loc main_arg9) = m ((c.tc : Thread nD τ).loc main_arg9)

/-- Every weakly fair execution terminates without a fault, with the result at the program's last contents, the arguments as
    launched and every counter zero. -/
theorem run : θ_run defs (onTc (τ := τ) (main (F := F))) ⟨m, fun _ => 0, ρ⟩ (fun r =>
      (∀ c : Dev nD, r.2.mem ((c.tc : Thread nD τ).loc main_v31) = ending m c (Proc.devRef .tc main_v31) ∧ kept m r.2.mem c)
      ∧ r.2.sem = fun _ => 0) :=
  (θ_run defs _ _).mono (fun r h => ⟨fun c => ⟨h c main_v31 rfl,
      (h c main_arg0 rfl).trans (ending_args m c main_arg0 (by decide)),
      (h c main_arg1 rfl).trans (ending_args m c main_arg1 (by decide)),
      (h c main_arg2 rfl).trans (ending_args m c main_arg2 (by decide)),
      (h c main_arg3 rfl).trans (ending_args m c main_arg3 (by decide)),
      (h c main_arg4 rfl).trans (ending_args m c main_arg4 (by decide)),
      (h c main_arg5 rfl).trans (ending_args m c main_arg5 (by decide)),
      (h c main_arg6 rfl).trans (ending_args m c main_arg6 (by decide)),
      (h c main_arg7 rfl).trans (ending_args m c main_arg7 (by decide)),
      (h c main_arg8 rfl).trans (ending_args m c main_arg8 (by decide)),
      (h c main_arg9 rfl).trans (ending_args m c main_arg9 (by decide))⟩,
      sem_eq_zero_of_no_sems (by decide) r.2⟩) (run_fold m ρ)

end Cert.WalkRef

end
-- ==== Proof.Frames.lean ====
/- The frames. The compiled kernel and its idealization are printed as one and the same text, so one run serves both. -/
module

public import proofs.«01_k».proof.Defs
public import proofs.«01_k».proof.Proof.Gen.Kernel
public import proofs.«01_k».proof.Proof.Gen.Kernel.Launch
public import proofs.«01_k».proof.Proof.Run
public import proofs.«01_k».proof.Proof.RefRun

@[expose] public section

set_option maxRecDepth 16384
set_option maxHeartbeats 2000000

noncomputable section

namespace Cert.Walk

open Idealize.ShloMosaic Idealize.ShloMosaic.TcCoe Idealize.SL.Sem

variable {F : FTy → Type} [FloatOps F]

/-- The two printed programs give the kernel bodies the same meaning. -/
theorem same_bodies : (Cert.Kernel.defs₀ (F := F)) = (Cert.KernelIdeal.defs₀ (F := F)) := by
  unfold Cert.Kernel.defs₀ Cert.KernelIdeal.defs₀
  refine congrArg Defs.onTc (funext fun l => funext fun a => ?_)
  match l, a with
  | 0, (t, s) => rfl
  | 1, (t, s) => rfl
  | 2, (t, s) => rfl

/-- They define the same program. -/
theorem same_defs : (Cert.Kernel.defs (F := F)) = (Cert.KernelIdeal.defs (F := F)) := congrArg (Pipeline.defs Cert.KernelIdeal.pcfgs) same_bodies

/-- The frame of the idealized kernel. -/
theorem frame_ideal : Cert.quiescent_KernelIdeal := fun m g _ =>
  (θ_run Cert.KernelIdeal.defs _ _).mono (fun r h => ⟨fun c => (h.1 c).2, h.2⟩) (run m g)

/-- The frame of the kernel as compiled. -/
theorem frame_kernel : Cert.quiescent_Kernel := fun m g _ => by
  have h := (θ_run Cert.KernelIdeal.defs _ _).mono (fun r h => (⟨fun c => (h.1 c).2, h.2⟩ :
    (∀ c, kept (F := Bits) m r.2.mem c) ∧ r.2.sem = fun _ => 0)) (run (F := Bits) m g)
  rw [← same_defs] at h
  exact h

/-- The frame of the reference. -/
theorem frame_ref : Cert.quiescent_ReferenceIdeal := fun m g _ =>
  (θ_run Cert.ReferenceIdeal.defs _ _).mono (fun r h => ⟨fun c => (h.1 c).2, h.2⟩) (Cert.WalkRef.run m g)

end Cert.Walk

end
-- ==== Proof.Spec.lean ====
/- The walk at the extended reals, row by row: the object part of the first layer, one step's scores, and the walk over time. -/
module

public import Idealize.ShloMosaic.Lib.Pointwise

@[expose] public section

noncomputable section

namespace Cert.Walk

open Idealize.ShloMosaic

/-- An array of extended reals of shape `s`. -/
abbrev Arr (s : Shape) : Type := s.Idx → EReal

/-- The ten argument arrays. -/
structure Given where
  o : Arr ⟨2, ![1024, 3060]⟩
  x : Arr ⟨3, ![1024, 85, 20]⟩
  oW1 : Arr ⟨2, ![3060, 1024]⟩
  ob1 : Arr ⟨1, ![1024]⟩
  oW2 : Arr ⟨2, ![1024, 1024]⟩
  ob2 : Arr ⟨1, ![1024]⟩
  eW1 : Arr ⟨2, ![1044, 1024]⟩
  eb1 : Arr ⟨1, ![1024]⟩
  eW2 : Arr ⟨2, ![1024, 27]⟩
  eb2 : Arr ⟨1, ![27]⟩

namespace Given

variable (G : Given)

/-- The object features of row `b`. -/
def obj (b : Fin 1024) (k : Fin 1024) : EReal :=
  (∑ h : Fin 1024, max ((∑ i : Fin 3060, G.o (ix2 b i) * G.oW1 (ix2 i h)) + G.ob1 (ix1 h)) 0 * G.oW2 (ix2 h k)) + G.ob2 (ix1 k)

/-- What the object features and the bias add to hidden unit `h` of row `b`. -/
def base (b : Fin 1024) (h : Fin 1024) : EReal :=
  (∑ k : Fin 1024, G.obj b k * G.eW1 (ix2 ⟨20 + k.val, by omega⟩ h)) + G.eb1 (ix1 h)

/-- The scores of row `b` from the input vector `cur`. -/
def score (b : Fin 1024) (cur : Fin 20 → EReal) (q : Fin 27) : EReal :=
  (∑ h : Fin 1024, max ((∑ j : Fin 20, cur j * G.eW1 (ix2 ⟨j.val, by omega⟩ h)) + G.base b h) 0 * G.eW2 (ix2 h q)) + G.eb2 (ix1 q)

/-- Row `b`'s input vector at time `t`, its entry 0 replaced by `p`. -/
def input (b : Fin 1024) (t : Fin 85) (p : EReal) (j : Fin 20) : EReal := if j.val < 1 then p else G.x (ix3 b t j)

/-- The score row `b` enters time `t` with. -/
def prev (b : Fin 1024) : ℕ → EReal
  | 0 => G.x (ix3 b 0 0)
  | t + 1 => G.score b (G.input b (Fin.ofNat 85 t) (prev b t)) 0

/-- The result: the scores of row `b` at time `t`. -/
def out (b : Fin 1024) (t : Fin 84) (q : Fin 27) : EReal :=
  G.score b (G.input b ⟨t.val, by omega⟩ (G.prev b t.val)) q

/-- The first input vector is itself. -/
theorem input_zero (b : Fin 1024) : G.input b 0 (G.x (ix3 b 0 0)) = fun j => G.x (ix3 b 0 j) := by
  funext j
  unfold input
  split
  · rw [show j = 0 from Fin.ext (by omega)]
  · rfl

end Given

/-- A sum over the twenty inputs, its entry 0 apart. -/
theorem sum_input (G : Given) (b : Fin 1024) (t : Fin 85) (p : EReal) (w : Fin 20 → EReal) :
    ∑ j : Fin 20, G.input b t p j * w j
      = p * w 0 + ∑ j : Fin 19, G.x (ix3 b t ⟨1 + j.val, by omega⟩) * w ⟨1 + j.val, by omega⟩ := by
  rw [Fin.sum_univ_succ]
  refine congrArg₂ (· + ·) rfl (Finset.sum_congr rfl fun j _ => ?_)
  have e : (j.succ : Fin 20) = ⟨1 + j.val, by omega⟩ := Fin.ext (by simp [Nat.add_comm])
  rw [e]
  unfold Given.input
  rw [if_neg (by show ¬ 1 + j.val < 1; omega)]

/-- Sums of products with equal factors are equal. -/
theorem sum_mul_eq {n : ℕ} (f f' g g' : Fin n → EReal) (hf : ∀ i, f i = f' i) (hg : ∀ i, g i = g' i) :
    ∑ i, f i * g i = ∑ i, f' i * g' i :=
  Finset.sum_congr rfl fun i _ => congrArg₂ (· * ·) (hf i) (hg i)

/-- The scores with the inputs' sum, the object features' sum and the bias added one after the other. -/
theorem score_of (G : Given) (b : Fin 1024) (cur : Fin 20 → EReal) (q : Fin 27) (a o e w : Fin 1024 → EReal) (d : EReal)
    (ha : ∀ h, a h = ∑ j : Fin 20, cur j * G.eW1 (ix2 ⟨j.val, by omega⟩ h))
    (ho : ∀ h, o h = ∑ k : Fin 1024, G.obj b k * G.eW1 (ix2 ⟨20 + k.val, by omega⟩ h))
    (he : ∀ h, e h = G.eb1 (ix1 h)) (hw : ∀ h, w h = G.eW2 (ix2 h q)) (hd : d = G.eb2 (ix1 q)) :
    (∑ h, max (a h + o h + e h) 0 * w h) + d = G.score b cur q := by
  rw [hd]
  refine congrArg₂ (· + ·) (sum_mul_eq _ _ _ _ (fun h => ?_) hw) rfl
  rw [ha, ho, he, add_assoc]
  rfl

end Cert.Walk

end
-- ==== Proof.StepValue.lean ====
/- One step of the kernel, one tile of its base and one chunk, at the extended reals: each is the row's own walk. -/
module

public import proofs.«01_k».proof.Proof.Steps
public import proofs.«01_k».proof.Proof.Base
public import proofs.«01_k».proof.Proof.Spec

@[expose] public section

set_option maxRecDepth 16384

noncomputable section

namespace Cert.Walk

open Idealize.ShloMosaic Idealize.ShloMosaic.TcCoe
open Cert.KernelIdeal Cert.KernelIdeal.Gen

/-- One step of the kernel at row `r` of a tile is one step of the walk of the row `b` it holds. -/
theorem scores_at (G : Given) (b : Fin 1024) (t : Fin 85) (p : EReal) (r : Fin 512)
    (x1 : Vec Ideal S512x1024 .f32) (x2 : Vec Ideal S1044x1024 .f32) (x3 : Vec Ideal S1024x27 .f32) (x4 : Vec Ideal S1x27 .f32)
    (prev : FVec Ideal S512x1 .bf16) (xt : Vec Ideal S1x512x20 .f32)
    (h1 : ∀ h, x1 (ix2 r h) = G.base b h) (h2 : x2 = G.eW1) (h3 : x3 = G.eW2) (h4 : ∀ q, x4 (ix2 0 q) = G.eb2 (ix1 q))
    (hp : prev (ix2 r 0) = p) (hx : ∀ j, xt (ix3 0 r j) = G.x (ix3 b t j)) (q : Fin 27) :
    scores x1 x2 x3 x4 prev xt (ix2 r q) = G.score b (G.input b t p) q := by
  subst h2 h3
  pointwise [scores, k1_pay13, k1_pay6, k1_pay7, k1_pay8, k1_pay12]
  simp only [h1, h4, hp, hx, Given.score, Fin.sum_univ_one]
  refine congrArg₂ (· + ·) (Finset.sum_congr rfl fun h _ => ?_) rfl
  rw [sum_input G b t p fun j => G.eW1 (ix2 ⟨j.val, by omega⟩ h)]
  rfl

/-- The column a step hands over, read at a row. -/
theorem handOver_at (e : FVec Ideal S512x27 .f32) (r : Fin 512) : handOver e (ix2 r 0) = e (ix2 r 0) := by
  pointwise [handOver]

/-- Row `s` of a chunk's input block, read at an index. -/
theorem slab_at (x0 : Vec Ideal S6x512x20 .f32) (s : Fin 6) (r : Fin 512) (j : Fin 20) : slab x0 s (ix3 0 r j) = x0 (ix3 s r j) := by
  fin_cases s <;> pointwise [slab]

/-- What a step of a chunk whose first row is time `τ` starts from is the walk's score at its time. -/
theorem carried_at (G : Given) (b : Fin 1024) (τ : ℕ) (r : Fin 512) (x0 : Vec Ideal S6x512x20 .f32)
    (x1 : Vec Ideal S512x1024 .f32) (x2 : Vec Ideal S1044x1024 .f32) (x3 : Vec Ideal S1024x27 .f32) (x4 : Vec Ideal S1x27 .f32)
    (p : FVec Ideal S512x1 .bf16)
    (h0 : ∀ (s : Fin 6) j, x0 (ix3 s r j) = G.x (ix3 b (Fin.ofNat 85 (τ + s.val)) j))
    (h1 : ∀ h, x1 (ix2 r h) = G.base b h) (h2 : x2 = G.eW1) (h3 : x3 = G.eW2) (h4 : ∀ q, x4 (ix2 0 q) = G.eb2 (ix1 q))
    (hp : p (ix2 r 0) = G.prev b τ) : ∀ n, n ≤ 6 → carried x0 x1 x2 x3 x4 p n (ix2 r 0) = G.prev b (τ + n)
  | 0, _ => hp
  | n + 1, hn => by
    rw [carried, handOver_at, scores_at G b (Fin.ofNat 85 (τ + n)) (G.prev b (τ + n)) r x1 x2 x3 x4 _ _ h1 h2 h3 h4
      (carried_at G b τ r x0 x1 x2 x3 x4 p h0 h1 h2 h3 h4 hp n (by omega))
      (fun j => by rw [slab_at, h0, show ((Fin.ofNat 6 n : Fin 6)).val = n from Nat.mod_eq_of_lt (by omega)])]
    rfl

/-- A chunk's stacked scores are the walk's. -/
theorem chunkOut_at (G : Given) (b : Fin 1024) (τ : ℕ) (r : Fin 512) (x0 : Vec Ideal S6x512x20 .f32)
    (x1 : Vec Ideal S512x1024 .f32) (x2 : Vec Ideal S1044x1024 .f32) (x3 : Vec Ideal S1024x27 .f32) (x4 : Vec Ideal S1x27 .f32)
    (p : FVec Ideal S512x1 .bf16)
    (h0 : ∀ (s : Fin 6) j, x0 (ix3 s r j) = G.x (ix3 b (Fin.ofNat 85 (τ + s.val)) j))
    (h1 : ∀ h, x1 (ix2 r h) = G.base b h) (h2 : x2 = G.eW1) (h3 : x3 = G.eW2) (h4 : ∀ q, x4 (ix2 0 q) = G.eb2 (ix1 q))
    (hp : p (ix2 r 0) = G.prev b τ) (s : Fin 6) (q : Fin 27) :
    chunkOut x0 x1 x2 x3 x4 p (ix3 s r q) = G.score b (G.input b (Fin.ofNat 85 (τ + s.val)) (G.prev b (τ + s.val))) q := by
  have hs : chunkOut x0 x1 x2 x3 x4 p (ix3 s r q) = scores x1 x2 x3 x4 (carried x0 x1 x2 x3 x4 p s.val) (slab x0 s) (ix2 r q) := by
    unfold chunkOut stackAlong0
    refine congrArg _ (funext fun a => ?_)
    fin_cases a <;> rfl
  rw [hs]
  exact scores_at G b _ _ r x1 x2 x3 x4 _ _ h1 h2 h3 h4 (carried_at G b τ r x0 x1 x2 x3 x4 p h0 h1 h2 h3 h4 hp s.val (by omega))
    (fun j => by rw [slab_at, h0]) q

/-- What the first walk starts from: entry 0 of the first input vector. -/
theorem firstPrev_at (x0 : Vec Ideal S6x512x20 .f32) (r : Fin 512) : firstPrev x0 (ix2 r 0) = x0 (ix3 0 r 0) := by
  rw [show firstPrev x0 = k1_pay5 (slab x0 0) from rfl, ← slab_at x0 0 r 0]
  pointwise [k1_pay5]

/-- A tile of the base array at a row is the row's base. -/
theorem baseTile_at (G : Given) (b : Fin 1024) (r : Fin 256)
    (x0 : Vec Ideal S256x3060 .f32) (x1 : Vec Ideal S3060x1024 .f32) (x2 : Vec Ideal S1x1024 .f32) (x3 : Vec Ideal S1024x1024 .f32)
    (x4 : Vec Ideal S1x1024 .f32) (x5 : Vec Ideal S1044x1024 .f32) (x6 : Vec Ideal S1x1024 .f32)
    (h0 : ∀ i, x0 (ix2 r i) = G.o (ix2 b i)) (h1 : x1 = G.oW1) (h2 : ∀ h, x2 (ix2 0 h) = G.ob1 (ix1 h)) (h3 : x3 = G.oW2)
    (h4 : ∀ h, x4 (ix2 0 h) = G.ob2 (ix1 h)) (h5 : x5 = G.eW1) (h6 : ∀ h, x6 (ix2 0 h) = G.eb1 (ix1 h)) (q : Fin 1024) :
    baseTile x0 x1 x2 x3 x4 x5 x6 (ix2 r q) = G.base b q := by
  subst h1 h3 h5
  pointwise [baseTile, k0_pay1]
  simp only [h0, h2, h4, h6, zero_mul, Finset.sum_const_zero, zero_add]
  rfl

end Cert.Walk

end
-- ==== Proof.BaseValue.lean ====
/- What the first call leaves: every row's base, at the extended reals. -/
module

public import proofs.«01_k».proof.Proof.StepValue
public import proofs.«01_k».proof.Proof.Run
public import Idealize.ShloMosaic.Lib.Pipeline.ValueKit
public import Idealize.ShloMosaic.Lib.StableHlo.ReadAt

@[expose] public section

set_option maxRecDepth 16384

noncomputable section

namespace Cert.Walk

open Idealize.ShloMosaic Idealize.ShloMosaic.TcCoe
open Cert.KernelIdeal Cert.KernelIdeal.Gen

variable (m : (ℓ : Loc nD τ sig) → Buf (Elt Ideal) ℓ) (ρ : Dev nD → PrngReg) (c : Dev nD)

/-- The argument arrays a core is launched with. -/
def given : Given where
  o := m ((c : Thread nD τ).loc main_arg0)
  x := m ((c : Thread nD τ).loc main_arg1)
  oW1 := m ((c : Thread nD τ).loc main_arg2)
  ob1 := m ((c : Thread nD τ).loc main_arg3)
  oW2 := m ((c : Thread nD τ).loc main_arg4)
  ob2 := m ((c : Thread nD τ).loc main_arg5)
  eW1 := m ((c : Thread nD τ).loc main_arg6)
  eb1 := m ((c : Thread nD τ).loc main_arg7)
  eW2 := m ((c : Thread nD τ).loc main_arg8)
  eb2 := m ((c : Thread nD τ).loc main_arg9)

/-- The first bias as the first call is handed it. -/
theorem at1_v0 (h : Fin 1024) : at1 m ρ c (Proc.devRef .tc main_v0) (ix2 0 h) = (given m c).ob1 (ix1 h) := by
  after_reads_at
  rfl

/-- The second bias as the first call is handed it. -/
theorem at1_v1 (h : Fin 1024) : at1 m ρ c (Proc.devRef .tc main_v1) (ix2 0 h) = (given m c).ob2 (ix1 h) := by
  after_reads_at
  rfl

/-- The third bias as the first call is handed it. -/
theorem at1_v2 (h : Fin 1024) : at1 m ρ c (Proc.devRef .tc main_v2) (ix2 0 h) = (given m c).eb1 (ix1 h) := by
  after_reads_at
  rfl

theorem index0_0 : ∀ t : Fin cfg0.N, win0_0.index t = ![t.val, 0] :=
  (by decide +kernel : ∀ t : Fin grid0.N, win0_0.index t = ![t.val, 0])
theorem index0_7 : ∀ t : Fin cfg0.N, win0_7.index t = ![t.val, 0] :=
  (by decide +kernel : ∀ t : Fin grid0.N, win0_7.index t = ![t.val, 0])
/-- The six constant windows of the first call are at block zero at every point. -/
theorem index0_const : ∀ t : Fin cfg0.N, win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, win0_1.index t = ![0, 0] ∧ win0_2.index t = ![0, 0] ∧ win0_3.index t = ![0, 0]
    ∧ win0_4.index t = ![0, 0] ∧ win0_5.index t = ![0, 0] ∧ win0_6.index t = ![0, 0])

/-- The block of object rows at point `t`, read at a row. -/
theorem tile0_0 (t : Fin cfg0.N) (r : Fin 256) (i : Fin 3060) (b : Fin 1024) (hb : b.val = 256 * t.val + r.val) :
    tile0 (enter0At m ρ) c 0 t (ix2 r i) = (given m c).o (ix2 b i) := by
  unfold tile0
  blk_simp
  rw [show (win0_0.blk t).view.emb (ix2 r i) = ix2 b i by blk_ext [index0_0 t]]
  exact congrFun (at1_args m ρ c main_arg0 (by decide)) _

/-- The block of a weight array is the array. -/
theorem tile0_1 (t : Fin cfg0.N) : tile0 (enter0At m ρ) c 1 t = (given m c).oW1 := by
  funext j
  unfold tile0
  blk_simp
  rw [show (win0_1.blk t).view.emb j = j by blk_ext [(index0_const t).1]]
  exact congrFun (at1_args m ρ c main_arg2 (by decide)) _

theorem tile0_3 (t : Fin cfg0.N) : tile0 (enter0At m ρ) c 3 t = (given m c).oW2 := by
  funext j
  unfold tile0
  blk_simp
  rw [show (win0_3.blk t).view.emb j = j by blk_ext [(index0_const t).2.2.1]]
  exact congrFun (at1_args m ρ c main_arg4 (by decide)) _
theorem tile0_5 (t : Fin cfg0.N) : tile0 (enter0At m ρ) c 5 t = (given m c).eW1 := by
  funext j
  unfold tile0
  blk_simp
  rw [show (win0_5.blk t).view.emb j = j by blk_ext [(index0_const t).2.2.2.2.1]]
  exact congrFun (at1_args m ρ c main_arg6 (by decide)) _

/-- The block of a bias is the bias. -/
theorem tile0_2 (t : Fin cfg0.N) (h : Fin 1024) : tile0 (enter0At m ρ) c 2 t (ix2 0 h) = (given m c).ob1 (ix1 h) := by
  unfold tile0
  blk_simp
  rw [show (win0_2.blk t).view.emb (ix2 0 h) = ix2 0 h by blk_ext [(index0_const t).2.1]]
  exact at1_v0 m ρ c h
theorem tile0_4 (t : Fin cfg0.N) (h : Fin 1024) : tile0 (enter0At m ρ) c 4 t (ix2 0 h) = (given m c).ob2 (ix1 h) := by
  unfold tile0
  blk_simp
  rw [show (win0_4.blk t).view.emb (ix2 0 h) = ix2 0 h by blk_ext [(index0_const t).2.2.2.1]]
  exact at1_v1 m ρ c h
theorem tile0_6 (t : Fin cfg0.N) (h : Fin 1024) : tile0 (enter0At m ρ) c 6 t (ix2 0 h) = (given m c).eb1 (ix1 h) := by
  unfold tile0
  blk_simp
  rw [show (win0_6.blk t).view.emb (ix2 0 h) = ix2 0 h by blk_ext [(index0_const t).2.2.2.2.2]]
  exact at1_v2 m ρ c h

/-- The first call leaves every row's base. -/
theorem baseArr : at2 m ρ c (Proc.devRef .tc main_v3) = fun i => (given m c).base (i 0) (i 1) := by
  refine (at2_arr m ρ c 7).trans ?_
  refine (dat0 (enter0At m ρ) c).arrAt_eq_of_covers 7 _ (by decide +kernel) fun t hf y => ?_
  blk_simp [after0_7]
  idx_vars y
  have ht : t.val < 4 := Nat.lt_of_lt_of_eq t.isLt N_0
  rw [show ((View.whole main_v3).slice (win0_7.rect t)).emb (ix2 y0 y1) = ix2 (⟨256 * t.val + y0.val, by omega⟩ : Fin 1024) y1
    by blk_ext [index0_7 t]]
  exact baseTile_at (given m c) _ y0 _ _ _ _ _ _ _ (fun i => tile0_0 m ρ c t y0 i _ rfl) (tile0_1 m ρ c t) (tile0_2 m ρ c t)
    (tile0_3 m ρ c t) (tile0_4 m ρ c t) (tile0_5 m ρ c t) (tile0_6 m ρ c t) y1

end Cert.Walk

end
-- ==== Proof.WalkValue1.lean ====
/- What the second call leaves, at the extended reals: the first 42 rows of scores of every walk, and the score each walk goes on with. -/
module

public import proofs.«01_k».proof.Proof.BaseValue

@[expose] public section

set_option maxRecDepth 16384

noncomputable section

namespace Cert.Walk

open Idealize.ShloMosaic Idealize.ShloMosaic.TcCoe
open Cert.KernelIdeal Cert.KernelIdeal.Gen

variable (m : (ℓ : Loc nD τ sig) → Buf (Elt Ideal) ℓ) (ρ : Dev nD → PrngReg) (c : Dev nD)

/-- The input vectors as the walks are handed them, time first. -/
theorem at3_v4 (t : Fin 85) (b : Fin 1024) (j : Fin 20) :
    at3 m ρ c (Proc.devRef .tc main_v4) (ix3 t b j) = (given m c).x (ix3 b t j) := by
  after_reads_at
  exact congrFun (at2_args m ρ c main_arg1 (by decide)) _

/-- The last bias as the walks are handed it. -/
theorem at3_v5 (q : Fin 27) : at3 m ρ c (Proc.devRef .tc main_v5) (ix2 0 q) = (given m c).eb2 (ix1 q) := by
  after_reads_at
  exact congrFun (at2_args m ρ c main_arg9 (by decide)) _

/-- The bases as the walks are handed them. -/
theorem at3_v3 : at3 m ρ c (Proc.devRef .tc main_v3) = fun i => (given m c).base (i 0) (i 1) :=
  (at3_of m ρ c main_v3 (by decide)).trans (baseArr m ρ c)

/-- The block of each window of the second call at point `t`. -/
theorem index1 : ∀ t : Fin cfg1.N, win1_0.index t = ![t.val % 7, t.val / 7, 0] ∧ win1_1.index t = ![t.val / 7, 0] ∧ win1_2.index t = ![0, 0]
    ∧ win1_3.index t = ![0, 0] ∧ win1_4.index t = ![0, 0] ∧ win1_6.index t = ![t.val % 7, t.val / 7, 0] ∧ win1_7.index t = ![t.val / 7, 0] :=
  (by decide +kernel : ∀ t : Fin grid1.N, win1_0.index t = ![t.val % 7, t.val / 7, 0] ∧ win1_1.index t = ![t.val / 7, 0] ∧ win1_2.index t = ![0, 0]
    ∧ win1_3.index t = ![0, 0] ∧ win1_4.index t = ![0, 0] ∧ win1_6.index t = ![t.val % 7, t.val / 7, 0] ∧ win1_7.index t = ![t.val / 7, 0])

/-- The chunk of input vectors at point `t`, read at a row. -/
theorem rows1_at (t : Fin cfg1.N) (s : Fin 6) (r : Fin 512) (j : Fin 20) (b : Fin 1024) (hb : b.val = 512 * (t.val / 7) + r.val) :
    rows1 (enter1At m ρ) c t (ix3 s r j) = (given m c).x (ix3 b (Fin.ofNat 85 (6 * (t.val % 7) + s.val)) j) := by
  have ht : t.val < 14 := Nat.lt_of_lt_of_eq t.isLt N_1
  rw [← at3_v4 m ρ c]
  unfold rows1 Pipeline.Window.fill
  rw [dif_pos (moved1 t _)]
  unfold tile1
  blk_simp
  exact congrArg (at3 m ρ c (Proc.devRef .tc main_v4)) (show (win1_0.blk t).view.emb (fun a => ⟨(ix3 s r j a).val, _⟩) = ix3 (Fin.ofNat 85 (6 * (t.val % 7) + s.val)) b j by
    rw [show Fin.ofNat 85 (6 * (t.val % 7) + s.val) = ⟨6 * (t.val % 7) + s.val, by omega⟩ from Fin.ext (Nat.mod_eq_of_lt (by omega))]
    blk_ext [(index1 t).1])

/-- The block of bases at point `t`, read at a row. -/
theorem tile1_1 (t : Fin cfg1.N) (r : Fin 512) (h : Fin 1024) (b : Fin 1024) (hb : b.val = 512 * (t.val / 7) + r.val) :
    tile1 (enter1At m ρ) c 1 t (ix2 r h) = (given m c).base b h := by
  unfold tile1
  blk_simp
  rw [show (win1_1.blk t).view.emb (ix2 r h) = ix2 b h by blk_ext [(index1 t).2.1]]
  exact congrFun (at3_v3 m ρ c) _

/-- The block of a weight array is the array. -/
theorem tile1_2 (t : Fin cfg1.N) : tile1 (enter1At m ρ) c 2 t = (given m c).eW1 := by
  funext j
  unfold tile1
  blk_simp
  rw [show (win1_2.blk t).view.emb j = j by blk_ext [(index1 t).2.2.1]]
  exact congrFun (at3_args m ρ c main_arg6 (by decide)) _
theorem tile1_3 (t : Fin cfg1.N) : tile1 (enter1At m ρ) c 3 t = (given m c).eW2 := by
  funext j
  unfold tile1
  blk_simp
  rw [show (win1_3.blk t).view.emb j = j by blk_ext [(index1 t).2.2.2.1]]
  exact congrFun (at3_args m ρ c main_arg8 (by decide)) _

/-- The block of the last bias is the bias. -/
theorem tile1_4 (t : Fin cfg1.N) (q : Fin 27) : tile1 (enter1At m ρ) c 4 t (ix2 0 q) = (given m c).eb2 (ix1 q) := by
  unfold tile1
  blk_simp
  rw [show (win1_4.blk t).view.emb (ix2 0 q) = ix2 0 q by blk_ext [(index1 t).2.2.2.2.1]]
  exact at3_v5 m ρ c q

/-- A point that starts from the row's score at its first time hands over the row's score six times later. -/
theorem handed1_at (t : Fin cfg1.N) (r : Fin 512) (b : Fin 1024) (hb : b.val = 512 * (t.val / 7) + r.val) (d : FVec Ideal S512x1 .bf16)
    (hp : start1 (grid1.coords t) (rows1 (enter1At m ρ) c t) d (ix2 r 0) = (given m c).prev b (6 * (t.val % 7))) :
    handed1 (enter1At m ρ) c t d (ix2 r 0) = (given m c).prev b (6 * (t.val % 7) + 6) :=
  carried_at (given m c) b _ r _ _ _ _ _ _ (fun s j => rows1_at m ρ c t s r j b hb) (fun h => tile1_1 m ρ c t r h b hb) (tile1_2 m ρ c t)
    (tile1_3 m ρ c t) (tile1_4 m ρ c t) hp 6 le_rfl

/-- Every point starts from the row's score at its first time. -/
theorem starts1 (n : ℕ) : ∀ (hn : n < cfg1.N) (r : Fin 512) (b : Fin 1024), b.val = 512 * (n / 7) + r.val →
    start1 (grid1.coords ⟨n, hn⟩) (rows1 (enter1At m ρ) c ⟨n, hn⟩) (left1 (enter1At m ρ) c n) (ix2 r 0) = (given m c).prev b (6 * (n % 7)) := by
  induction n with
  | zero =>
    intro hn r b hb
    unfold start1
    rw [if_pos ((first1_iff ⟨0, hn⟩).mpr rfl), firstPrev_at, rows1_at m ρ c ⟨0, hn⟩ 0 r 0 b hb]
    rfl
  | succ n ih =>
    intro hn r b hb
    unfold start1
    by_cases h0 : (n + 1) % 7 = 0
    · rw [if_pos ((first1_iff ⟨n + 1, hn⟩).mpr h0), firstPrev_at, rows1_at m ρ c ⟨n + 1, hn⟩ 0 r 0 b hb]
      simp only [h0]
      rfl
    · have hq : (n + 1) / 7 = n / 7 := by omega
      have hr : (n + 1) % 7 = n % 7 + 1 := by omega
      have hb' : b.val = 512 * (n / 7) + r.val := by rw [hb, hq]
      rw [if_neg (fun h => h0 ((first1_iff ⟨n + 1, hn⟩).mp h)), left1_succ _ c ⟨n, Nat.lt_of_succ_lt hn⟩]
      rw [handed1_at m ρ c ⟨n, Nat.lt_of_succ_lt hn⟩ r b hb' _ (ih (Nat.lt_of_succ_lt hn) r b hb'), hr]
      rfl

/-- The second call leaves the first 42 rows of scores of every walk. -/
theorem scoresArr1 : at4 m ρ c (Proc.devRef .tc main_v7_0)
    = fun i => (given m c).score (i 1) ((given m c).input (i 1) (Fin.ofNat 85 (i 0).val) ((given m c).prev (i 1) (i 0).val)) (i 2) := by
  refine (at4_arr m ρ c 6).trans ?_
  refine (dat1 (enter1At m ρ) c).arrAt_eq_of_covers 6 _ (by decide +kernel) fun t hf y => ?_
  blk_simp [after1_6]
  idx_vars y
  have ht : t.val < 14 := Nat.lt_of_lt_of_eq t.isLt N_1
  generalize hb : (⟨512 * (t.val / 7) + y1.val, by omega⟩ : Fin 1024) = b
  have hb' : b.val = 512 * (t.val / 7) + y1.val := by rw [← hb]
  have key := chunkOut_at (given m c) b (6 * (t.val % 7)) y1 _ _ _ _ _ _ (fun s j => rows1_at m ρ c t s y1 j b hb')
    (fun h => tile1_1 m ρ c t y1 h b hb') (tile1_2 m ρ c t) (tile1_3 m ρ c t) (tile1_4 m ρ c t) (starts1 m ρ c t.val t.isLt y1 b hb') y0 y2
  rw [show ((View.whole main_v7_0).slice (win1_6.rect t)).emb (ix3 y0 y1 y2)
    = ix3 (⟨6 * (t.val % 7) + y0.val, by omega⟩ : Fin 42) b y2 by subst hb; blk_ext [(index1 t).2.2.2.2.2.1]]
  rw [show win1_6.index t 0 * 6 + y0.val = 6 * (t.val % 7) + y0.val by
    rw [(index1 t).2.2.2.2.2.1]; show t.val % 7 * 6 + y0.val = _; omega]
  exact key

/-- The second call leaves the score each walk enters time 42 with. -/
theorem prevArr1 : at4 m ρ c (Proc.devRef .tc main_v7_1) = fun i => (given m c).prev (i 0) 42 := by
  refine (at4_arr m ρ c 7).trans ?_
  refine (dat1 (enter1At m ρ) c).arrAt_eq_of_covers 7 _ (by decide +kernel) fun t hf y => ?_
  have h6 : t.val % 7 = 6 := (flush1_7 t).mp hf
  blk_simp [after1_7]
  idx_vars y
  have ht : t.val < 14 := Nat.lt_of_lt_of_eq t.isLt N_1
  rw [show y1 = 0 from Subsingleton.elim _ _]
  generalize hb : (⟨512 * (t.val / 7) + y0.val, by omega⟩ : Fin 1024) = b
  have hb' : b.val = 512 * (t.val / 7) + y0.val := by rw [← hb]
  have key := handed1_at m ρ c t y0 b hb' _ (starts1 m ρ c t.val t.isLt y0 b hb')
  rw [h6] at key
  rw [show ((View.whole main_v7_1).slice (win1_7.rect t)).emb (ix2 y0 0) = ix2 b 0 by subst hb; blk_ext [(index1 t).2.2.2.2.2.2]]
  exact key

end Cert.Walk

end
-- ==== Proof.WalkValue2.lean ====
/- What the third call leaves, at the extended reals: the last 42 rows of scores of every walk. -/
module

public import proofs.«01_k».proof.Proof.WalkValue1

@[expose] public section

set_option maxRecDepth 16384

noncomputable section

namespace Cert.Walk

open Idealize.ShloMosaic Idealize.ShloMosaic.TcCoe
open Cert.KernelIdeal Cert.KernelIdeal.Gen

variable (m : (ℓ : Loc nD τ sig) → Buf (Elt Ideal) ℓ) (ρ : Dev nD → PrngReg) (c : Dev nD)

/-- The third call finds the input vectors, the last bias and the bases as the second found them. -/
theorem at4_v4 (t : Fin 85) (b : Fin 1024) (j : Fin 20) :
    at4 m ρ c (Proc.devRef .tc main_v4) (ix3 t b j) = (given m c).x (ix3 b t j) :=
  (congrFun (at4_of m ρ c main_v4 (by decide)) _).trans (at3_v4 m ρ c t b j)
theorem at4_v5 (q : Fin 27) : at4 m ρ c (Proc.devRef .tc main_v5) (ix2 0 q) = (given m c).eb2 (ix1 q) :=
  (congrFun (at4_of m ρ c main_v5 (by decide)) _).trans (at3_v5 m ρ c q)
theorem at4_v3 : at4 m ρ c (Proc.devRef .tc main_v3) = fun i => (given m c).base (i 0) (i 1) :=
  (at4_of m ρ c main_v3 (by decide)).trans (at3_v3 m ρ c)

/-- The block of each window of the third call at point `t`. -/
theorem index2 : ∀ t : Fin cfg2.N, win2_0.index t = ![t.val % 7 + 7, t.val / 7, 0] ∧ win2_1.index t = ![t.val / 7, 0] ∧ win2_2.index t = ![0, 0]
    ∧ win2_3.index t = ![0, 0] ∧ win2_4.index t = ![0, 0] ∧ win2_6.index t = ![t.val % 7, t.val / 7, 0] ∧ win2_5.index t = ![t.val / 7, 0] :=
  (by decide +kernel : ∀ t : Fin grid2.N, win2_0.index t = ![t.val % 7 + 7, t.val / 7, 0] ∧ win2_1.index t = ![t.val / 7, 0] ∧ win2_2.index t = ![0, 0]
    ∧ win2_3.index t = ![0, 0] ∧ win2_4.index t = ![0, 0] ∧ win2_6.index t = ![t.val % 7, t.val / 7, 0] ∧ win2_5.index t = ![t.val / 7, 0])

/-- The chunk of input vectors at point `t`, read at a row. -/
theorem rows2_at (t : Fin cfg2.N) (s : Fin 6) (r : Fin 512) (j : Fin 20) (b : Fin 1024) (hb : b.val = 512 * (t.val / 7) + r.val) :
    rows2 (enter2At m ρ) c t (ix3 s r j) = (given m c).x (ix3 b (Fin.ofNat 85 (42 + 6 * (t.val % 7) + s.val)) j) := by
  have ht : t.val < 14 := Nat.lt_of_lt_of_eq t.isLt N_2
  rw [← at4_v4 m ρ c]
  unfold rows2 Pipeline.Window.fill
  rw [dif_pos (moved2 t _)]
  unfold tile2
  blk_simp
  exact congrArg (at4 m ρ c (Proc.devRef .tc main_v4)) (show (win2_0.blk t).view.emb (fun a => ⟨(ix3 s r j a).val, _⟩) = ix3 (Fin.ofNat 85 (42 + 6 * (t.val % 7) + s.val)) b j by
    rw [show Fin.ofNat 85 (42 + 6 * (t.val % 7) + s.val) = ⟨42 + 6 * (t.val % 7) + s.val, by omega⟩ from Fin.ext (Nat.mod_eq_of_lt (by omega))]
    blk_ext [(index2 t).1])

/-- The block of bases at point `t`, read at a row. -/
theorem tile2_1 (t : Fin cfg2.N) (r : Fin 512) (h : Fin 1024) (b : Fin 1024) (hb : b.val = 512 * (t.val / 7) + r.val) :
    tile2 (enter2At m ρ) c 1 t (ix2 r h) = (given m c).base b h := by
  unfold tile2
  blk_simp
  rw [show (win2_1.blk t).view.emb (ix2 r h) = ix2 b h by blk_ext [(index2 t).2.1]]
  exact congrFun (at4_v3 m ρ c) _

/-- The block of a weight array is the array. -/
theorem tile2_2 (t : Fin cfg2.N) : tile2 (enter2At m ρ) c 2 t = (given m c).eW1 := by
  funext j
  unfold tile2
  blk_simp
  rw [show (win2_2.blk t).view.emb j = j by blk_ext [(index2 t).2.2.1]]
  exact congrFun (at4_args m ρ c main_arg6 (by decide)) _
theorem tile2_3 (t : Fin cfg2.N) : tile2 (enter2At m ρ) c 3 t = (given m c).eW2 := by
  funext j
  unfold tile2
  blk_simp
  rw [show (win2_3.blk t).view.emb j = j by blk_ext [(index2 t).2.2.2.1]]
  exact congrFun (at4_args m ρ c main_arg8 (by decide)) _

/-- The block of the last bias is the bias. -/
theorem tile2_4 (t : Fin cfg2.N) (q : Fin 27) : tile2 (enter2At m ρ) c 4 t (ix2 0 q) = (given m c).eb2 (ix1 q) := by
  unfold tile2
  blk_simp
  rw [show (win2_4.blk t).view.emb (ix2 0 q) = ix2 0 q by blk_ext [(index2 t).2.2.2.2.1]]
  exact at4_v5 m ρ c q

/-- The block of scores handed over by the second call, read at a row. -/
theorem tile2_5 (t : Fin cfg2.N) (r : Fin 512) (b : Fin 1024) (hb : b.val = 512 * (t.val / 7) + r.val) :
    tile2 (enter2At m ρ) c 5 t (ix2 r 0) = (given m c).prev b 42 := by
  unfold tile2
  blk_simp
  rw [show (win2_5.blk t).view.emb (ix2 r 0) = ix2 b 0 by blk_ext [(index2 t).2.2.2.2.2.2]]
  exact congrFun (prevArr1 m ρ c) _

/-- A point that starts from the row's score at its first time hands over the row's score six times later. -/
theorem handed2_at (t : Fin cfg2.N) (r : Fin 512) (b : Fin 1024) (hb : b.val = 512 * (t.val / 7) + r.val) (d : FVec Ideal S512x1 .bf16)
    (hp : start2 (grid2.coords t) (tile2 (enter2At m ρ) c 5 t) d (ix2 r 0) = (given m c).prev b (42 + 6 * (t.val % 7))) :
    handed2 (enter2At m ρ) c t d (ix2 r 0) = (given m c).prev b (42 + 6 * (t.val % 7) + 6) :=
  carried_at (given m c) b _ r _ _ _ _ _ _ (fun s j => rows2_at m ρ c t s r j b hb) (fun h => tile2_1 m ρ c t r h b hb) (tile2_2 m ρ c t)
    (tile2_3 m ρ c t) (tile2_4 m ρ c t) hp 6 le_rfl

/-- Every point starts from the row's score at its first time. -/
theorem starts2 (n : ℕ) : ∀ (hn : n < cfg2.N) (r : Fin 512) (b : Fin 1024), b.val = 512 * (n / 7) + r.val →
    start2 (grid2.coords ⟨n, hn⟩) (tile2 (enter2At m ρ) c 5 ⟨n, hn⟩) (left2 (enter2At m ρ) c n) (ix2 r 0) = (given m c).prev b (42 + 6 * (n % 7)) := by
  induction n with
  | zero =>
    intro hn r b hb
    unfold start2
    rw [if_pos ((first2_iff ⟨0, hn⟩).mpr rfl), tile2_5 m ρ c ⟨0, hn⟩ r b hb]
  | succ n ih =>
    intro hn r b hb
    unfold start2
    by_cases h0 : (n + 1) % 7 = 0
    · rw [if_pos ((first2_iff ⟨n + 1, hn⟩).mpr h0), tile2_5 m ρ c ⟨n + 1, hn⟩ r b hb, h0]
    · have hq : (n + 1) / 7 = n / 7 := by omega
      have hr : (n + 1) % 7 = n % 7 + 1 := by omega
      have hb' : b.val = 512 * (n / 7) + r.val := by rw [hb, hq]
      rw [if_neg (fun h => h0 ((first2_iff ⟨n + 1, hn⟩).mp h)), left2_succ _ c ⟨n, Nat.lt_of_succ_lt hn⟩]
      rw [handed2_at m ρ c ⟨n, Nat.lt_of_succ_lt hn⟩ r b hb' _ (ih (Nat.lt_of_succ_lt hn) r b hb'), hr]
      rfl

/-- The third call leaves the last 42 rows of scores of every walk. -/
theorem scoresArr2 : at5 m ρ c (Proc.devRef .tc main_v8_0)
    = fun i => (given m c).score (i 1) ((given m c).input (i 1) (Fin.ofNat 85 (42 + (i 0).val)) ((given m c).prev (i 1) (42 + (i 0).val))) (i 2) := by
  refine (at5_arr m ρ c 6).trans ?_
  refine (dat2 (enter2At m ρ) c).arrAt_eq_of_covers 6 _ (by decide +kernel) fun t hf y => ?_
  blk_simp [after2_6]
  idx_vars y
  have ht : t.val < 14 := Nat.lt_of_lt_of_eq t.isLt N_2
  generalize hb : (⟨512 * (t.val / 7) + y1.val, by omega⟩ : Fin 1024) = b
  have hb' : b.val = 512 * (t.val / 7) + y1.val := by rw [← hb]
  have key := chunkOut_at (given m c) b (42 + 6 * (t.val % 7)) y1 _ _ _ _ _ _ (fun s j => rows2_at m ρ c t s y1 j b hb')
    (fun h => tile2_1 m ρ c t y1 h b hb') (tile2_2 m ρ c t) (tile2_3 m ρ c t) (tile2_4 m ρ c t) (starts2 m ρ c t.val t.isLt y1 b hb') y0 y2
  rw [show ((View.whole main_v8_0).slice (win2_6.rect t)).emb (ix3 y0 y1 y2)
    = ix3 (⟨6 * (t.val % 7) + y0.val, by omega⟩ : Fin 42) b y2 by subst hb; blk_ext [(index2 t).2.2.2.2.2.1]]
  rw [show win2_6.index t 0 * 6 + y0.val = 6 * (t.val % 7) + y0.val by
    rw [(index2 t).2.2.2.2.2.1]; show t.val % 7 * 6 + y0.val = _; omega]
  rw [Nat.add_assoc 42] at key
  exact key

end Cert.Walk

end
-- ==== Proof.KernelValue.lean ====
/- The kernel's result at the extended reals: every walk's scores. -/
module

public import proofs.«01_k».proof.Proof.WalkValue2

@[expose] public section

set_option maxRecDepth 16384

noncomputable section

namespace Cert.Walk

open Idealize.ShloMosaic Idealize.ShloMosaic.TcCoe
open Cert.KernelIdeal Cert.KernelIdeal.Gen

variable (m : (ℓ : Loc nD τ sig) → Buf (Elt Ideal) ℓ) (ρ : Dev nD → PrngReg) (c : Dev nD)

/-- A score of the result, at a time given by its number. -/
theorem out_eq (G : Given) (b : Fin 1024) (t : Fin 84) (q : Fin 27) (n : ℕ) (h : n = t.val) :
    G.out b t q = G.score b (G.input b (Fin.ofNat 85 n) (G.prev b n)) q := by
  subst h
  unfold Given.out
  rw [show Fin.ofNat 85 t.val = ⟨t.val, by omega⟩ from Fin.ext (Nat.mod_eq_of_lt (by omega))]

/-- The first half's scores, as the last host operations find them. -/
theorem at5_v7_0 : at5 m ρ c (Proc.devRef .tc main_v7_0)
    = fun i => (given m c).score (i 1) ((given m c).input (i 1) (Fin.ofNat 85 (i 0).val) ((given m c).prev (i 1) (i 0).val)) (i 2) :=
  (at5_of m ρ c main_v7_0 (by decide)).trans (scoresArr1 m ρ c)

/-- The result array holds every walk's scores. -/
theorem result_at (b : Fin 1024) (t : Fin 84) (q : Fin 27) :
    at6 m ρ c (Proc.devRef .tc main_v11) (ix3 b t q) = (given m c).out b t q := by
  after_reads_at
  split
  · rw [out_eq (given m c) b t q t.val rfl]
    exact congrFun (at5_v7_0 m ρ c) _
  · rename_i h
    rw [out_eq (given m c) b t q (42 + (t.val - 42)) (by omega)]
    exact congrFun (scoresArr2 m ρ c) _

end Cert.Walk

end
-- ==== Proof.RefValue.lean ====
/- The reference's result at the extended reals: every walk's scores. -/
module

public import proofs.«01_k».proof.Proof.RefRun
public import proofs.«01_k».proof.Proof.Spec
public import Idealize.ShloMosaic.Lib.Pointwise
public import Idealize.ShloMosaic.Lib.StableHlo.ReadAt
public import Idealize.ShloMosaic.Lib.DynamicIndex
public import Idealize.ShloMosaic.Lib.Tactic.CleanTypes

@[expose] public section

set_option maxRecDepth 16384

noncomputable section

namespace Cert.WalkRef

open Idealize.ShloMosaic Idealize.ShloMosaic.TcCoe Idealize.ShloMosaic.StableHlo
open Cert.ReferenceIdeal Cert.ReferenceIdeal.Gen Cert.ReferenceIdeal.Value
open Cert.Walk (Given)

variable (m : (ℓ : Loc nD τ sig) → Buf (Elt Ideal) ℓ) (ρ : Dev nD → PrngReg) (c : Dev nD)

/-- The argument arrays a core is launched with. -/
def given : Given where
  o := m ((c.tc : Thread nD τ).loc main_arg0)
  x := m ((c.tc : Thread nD τ).loc main_arg1)
  oW1 := m ((c.tc : Thread nD τ).loc main_arg2)
  ob1 := m ((c.tc : Thread nD τ).loc main_arg3)
  oW2 := m ((c.tc : Thread nD τ).loc main_arg4)
  ob2 := m ((c.tc : Thread nD τ).loc main_arg5)
  eW1 := m ((c.tc : Thread nD τ).loc main_arg6)
  eb1 := m ((c.tc : Thread nD τ).loc main_arg7)
  eW2 := m ((c.tc : Thread nD τ).loc main_arg8)
  eb2 := m ((c.tc : Thread nD τ).loc main_arg9)

/-- The object features before the loop. -/
theorem first_v9 (b k : Fin 1024) : upto hostOps0 (launchContents m c) 13 (Proc.devRef .tc main_v9) (ix2 b k) = (given m c).obj b k := by
  after_reads_at
  rfl

/-- The first input vectors. -/
theorem first_v11 (b : Fin 1024) (i : Fin 20) : upto hostOps0 (launchContents m c) 13 (Proc.devRef .tc main_v11) (ix2 b i) = (given m c).x (ix3 b 0 i) := by
  after_reads_at
  rfl

/-- The input vectors the loop goes over. -/
theorem entry_v24 (j : Fin 83) (b : Fin 1024) (i : Fin 20) :
    entryContents preI m c (Proc.devRef .tc main_v28_0) (ix3 j b i) = (given m c).x (ix3 b ⟨1 + j.val, by omega⟩ i) := by
  show after hostOps0 (launchContents m c) (Proc.devRef .tc main_v28_0) (ix3 j b i) = _
  after_reads_at
  dsimp only [id_eq]
  pointwise
  rfl

/-- A trip's counter, read signed, is its number. -/
theorem toInt_ctr (k : ℕ) (hk : k < 83) : (Scf.iv 0#32 1#32 k).toInt = k := by
  rw [Scf.iv, BitVec.zero_add, BitVec.mul_one]
  exact toInt_ofNat_of_lt (by omega)

/-- The scores of a trip. -/
theorem trip_at (G : Given) (V0 : Valuation τ sig (Elt Ideal)) (k : ℕ) (hk : k < 83) (b : Fin 1024) (p : EReal)
    (h0 : ∀ j, V0 (Proc.devRef .tc main_v28_0) (ix3 ⟨k, hk⟩ b j) = G.x (ix3 b ⟨1 + k, by omega⟩ j))
    (h1 : ∀ h, V0 (Proc.devRef .tc main_v28_1) (ix2 b h) = G.obj b h) (h2 : V0 (Proc.devRef .tc main_v28_2) = G.eW1)
    (h3 : V0 (Proc.devRef .tc main_v28_3) = G.eb1) (h4 : V0 (Proc.devRef .tc main_v28_4) = G.eW2)
    (h5 : V0 (Proc.devRef .tc main_v28_5) = G.eb2) (h6 : V0 (Proc.devRef .tc main_v28_6) = fun _ => Scf.iv 0#32 1#32 k)
    (h7 : V0 (Proc.devRef .tc main_v28_7) (ix1 b) = p) (q : Fin 27) :
    res_main_while0b_v46 V0 (ix2 b q) = G.score b (G.input b ⟨1 + k, by omega⟩ p) q := by
  have hoff : S83x1024x20.Slices ![k, 0, 0] S1x1024x20 := ⟨rfl, fun a => by fin_cases a <;> simp <;> omega⟩
  unfold res_main_while0b_v46
  rw [Host.dynamicSlice_eq_extractStridedSlice S1x1024x20 _ _ ![k, 0, 0] _ hoff (fun a => by
    fin_cases a
    · show (V0 (Proc.devRef .tc main_v28_6) _).toInt = _
      rw [h6]
      exact toInt_ctr k hk
    · rfl
    · rfl)]
  clean_types
  pointwise
  refine Walk.score_of G b _ q _ _ _ _ _ (fun h => ?_) (fun h => Walk.sum_mul_eq _ _ _ _ (fun k => h1 k) (fun k => congrFun h2 _))
    (fun h => congrFun h3 _) (fun h => congrFun h4 _) (congrFun h5 _)
  rw [Walk.sum_input G b ⟨1 + k, by omega⟩ p fun j => G.eW1 (ix2 ⟨j.val, by omega⟩ h)]
  exact congrArg₂ (fun u v : EReal => u + v) ((Fin.sum_univ_one _).trans (congrArg₂ (fun u v : EReal => u * v) h7 (congrFun h2 _)))
    (Walk.sum_mul_eq _ _ _ _ (fun j => h0 _) (fun j => congrFun h2 _))

/-- The scores of the first step. -/
theorem first_v22 (b : Fin 1024) (q : Fin 27) :
    entryContents preI m c (Proc.devRef .tc main_v22) (ix2 b q) = (given m c).score b ((given m c).input b 0 ((given m c).prev b 0)) q := by
  show after hostOps0 (launchContents m c) (Proc.devRef .tc main_v22) (ix2 b q) = _
  after_reads_at
  rw [show (given m c).prev b 0 = (given m c).x (ix3 b 0 0) from rfl, Given.input_zero]
  exact Walk.score_of (given m c) b _ q _ _ _ _ _ (fun h => Walk.sum_mul_eq _ _ _ _ (fun i => first_v11 m c b i) (fun _ => rfl))
    (fun h => Walk.sum_mul_eq _ _ _ _ (fun k => first_v9 m c b k) (fun _ => rfl)) (fun _ => rfl) (fun _ => rfl) rfl

/-- The object features as the loop finds them. -/
theorem entry_v9 (b k : Fin 1024) : entryContents preI m c (Proc.devRef .tc main_v28_1) (ix2 b k) = (given m c).obj b k := by
  show after hostOps0 (launchContents m c) (Proc.devRef .tc main_v28_1) (ix2 b k) = _
  after_reads_at
  dsimp only [id_eq]
  pointwise
  rfl

/-- The score the loop starts from. -/
theorem entry_v26 (b : Fin 1024) : entryContents preI m c (Proc.devRef .tc main_v28_7) (ix1 b) = (given m c).prev b 1 := by
  refine Eq.trans ?_ (first_v22 m c b 0)
  show after hostOps0 (launchContents m c) (Proc.devRef .tc main_v28_7) (ix1 b) = after hostOps0 (launchContents m c) (Proc.devRef .tc main_v22) (ix2 b 0)
  after_reads_at
  rfl

/-- What the loop carries unchanged. -/
theorem carries (k : ℕ) : ∀ r ∈ [main_v28_0, main_v28_1, main_v28_2, main_v28_3, main_v28_4, main_v28_5],
    atK m k c (Proc.devRef .tc r) = entryContents preI m c (Proc.devRef .tc r) := by
  induction k with
  | zero => exact fun _ _ => rfl
  | succ k ih =>
    intro r hr
    refine Eq.trans ?_ (ih r hr)
    fin_cases hr
    · exact (trip_agree (atK m k c) main_v28_0 (by decide)).trans (STEP_main_v28_0 _)
    · exact (trip_agree (atK m k c) main_v28_1 (by decide)).trans (STEP_main_v28_1 _)
    · exact (trip_agree (atK m k c) main_v28_2 (by decide)).trans (STEP_main_v28_2 _)
    · exact (trip_agree (atK m k c) main_v28_3 (by decide)).trans (STEP_main_v28_3 _)
    · exact (trip_agree (atK m k c) main_v28_4 (by decide)).trans (STEP_main_v28_4 _)
    · exact (trip_agree (atK m k c) main_v28_5 (by decide)).trans (STEP_main_v28_5 _)

/-- What a weight or bias is as the loop finds it. -/
theorem entry_v28_2 : entryContents preI m c (Proc.devRef .tc main_v28_2) = (given m c).eW1 := by
  show after hostOps0 (launchContents m c) (Proc.devRef .tc main_v28_2) = _
  after_reads_simp
  rfl
theorem entry_v28_3 : entryContents preI m c (Proc.devRef .tc main_v28_3) = (given m c).eb1 := by
  show after hostOps0 (launchContents m c) (Proc.devRef .tc main_v28_3) = _
  after_reads_simp
  rfl
theorem entry_v28_4 : entryContents preI m c (Proc.devRef .tc main_v28_4) = (given m c).eW2 := by
  show after hostOps0 (launchContents m c) (Proc.devRef .tc main_v28_4) = _
  after_reads_simp
  rfl
theorem entry_v28_5 : entryContents preI m c (Proc.devRef .tc main_v28_5) = (given m c).eb2 := by
  show after hostOps0 (launchContents m c) (Proc.devRef .tc main_v28_5) = _
  after_reads_simp
  rfl

/-- A trip that enters with the row's score leaves the row's scores at the next time. -/
theorem trip_scores (k : ℕ) (hk : k < 83) (b : Fin 1024) (h7 : atK m k c (Proc.devRef .tc main_v28_7) (ix1 b) = (given m c).prev b (1 + k)) (q : Fin 27) :
    res_main_while0b_v46 (atK m k c) (ix2 b q) = (given m c).out b ⟨1 + k, by omega⟩ q :=
  trip_at (given m c) (atK m k c) k hk b _ (fun j => (congrFun (carries m c k main_v28_0 (by decide)) _).trans (entry_v24 m c ⟨k, hk⟩ b j))
    (fun h => (congrFun (carries m c k main_v28_1 (by decide)) _).trans (entry_v9 m c b h))
    ((carries m c k main_v28_2 (by decide)).trans (entry_v28_2 m c)) ((carries m c k main_v28_3 (by decide)).trans (entry_v28_3 m c))
    ((carries m c k main_v28_4 (by decide)).trans (entry_v28_4 m c)) ((carries m c k main_v28_5 (by decide)).trans (entry_v28_5 m c))
    (atK_ctr m c k) h7 q

/-- The score every trip enters with. -/
theorem enters (b : Fin 1024) : ∀ k, k ≤ 83 → atK m k c (Proc.devRef .tc main_v28_7) (ix1 b) = (given m c).prev b (1 + k)
  | 0, _ => entry_v26 m c b
  | k + 1, hk => by
    have e : atK m (k + 1) c (Proc.devRef .tc main_v28_7) = step_main_v28_7 (atK m k c) :=
      (trip_agree (atK m k c) main_v28_7 (by decide)).trans (STEP_main_v28_7 _)
    have h := trip_scores m c k (by omega) b (enters b k (by omega)) 0
    rw [e]
    unfold step_main_v28_7
    dsimp only [id_eq]
    clean_types
    pointwise
    rw [h, show 1 + (k + 1) = (1 + k) + 1 by omega]
    unfold Given.out
    rw [Given.prev, show Fin.ofNat 85 (1 + k) = ⟨1 + k, by omega⟩ from Fin.ext (Nat.mod_eq_of_lt (by omega))]

/-- The scores stacked before a trip. -/
theorem stacked (b : Fin 1024) (q : Fin 27) : ∀ k, k ≤ 83 → ∀ j : Fin 83, j.val < k →
    atK m k c (Proc.devRef .tc main_v28_8) (ix3 j b q) = (given m c).out b ⟨1 + j.val, by omega⟩ q
  | 0, _, j, hj => absurd hj (by omega)
  | k + 1, hk, j, hj => by
    have e : atK m (k + 1) c (Proc.devRef .tc main_v28_8) = step_main_v28_8 (atK m k c) :=
      (trip_agree (atK m k c) main_v28_8 (by decide)).trans (STEP_main_v28_8 _)
    have h := trip_scores m c k (by omega) b (enters m c b k (by omega)) q
    have hoff : S83x1024x27.Slices ![k, 0, 0] S1x1024x27 := ⟨rfl, fun a => by fin_cases a <;> simp <;> omega⟩
    rw [e]
    unfold step_main_v28_8
    rw [Host.dynamicUpdateSlice_eq_updateSlice _ _ _ _ ![k, 0, 0] (fun a => by
      fin_cases a
      · show (min (max (atK m k c (Proc.devRef .tc main_v28_6) _).toInt 0) 82).toNat = k
        rw [atK_ctr, toInt_ctr k (by omega)]
        omega
      · rfl
      · rfl) hoff]
    dsimp only [id_eq]
    clean_types
    pointwise
    split
    · rw [h, show (⟨1 + k, by omega⟩ : Fin 84) = ⟨1 + j.val, by omega⟩ from Fin.ext (by simp only; omega)]
    · exact stacked b q k (by omega) j (by omega)

/-- The result array holds every walk's scores. -/
theorem result_at (b : Fin 1024) (t : Fin 84) (q : Fin 27) : ending m c (Proc.devRef .tc main_v31) (ix3 b t q) = (given m c).out b t q := by
  show after hostOps0_1 (after condOps (atK m 83 c)) (Proc.devRef .tc main_v31) (ix3 b t q) = _
  after_reads_at
  split
  · after_reads_at
    rw [show t = 0 from Fin.ext (by simp only [Fin.val_zero]; omega)]
    exact (congrFun (atK_keep m c main_v22 (by decide) 83) _).trans (first_v22 m c b q)
  · after_reads_at
    rename_i h
    refine (stacked m c b q 83 le_rfl _ (by show t.val - 1 < 83; omega)).trans ?_
    rw [show (⟨1 + (t.val - 1), by omega⟩ : Fin 84) = t from Fin.ext (by simp only; omega)]

end Cert.WalkRef

end
-- ==== Proof.Equation.lean ====
/- The value equation: from equal arguments the idealized kernel and the reference end with the same result array. -/
module

public import proofs.«01_k».proof.Defs
public import proofs.«01_k».proof.Proof.KernelValue
public import proofs.«01_k».proof.Proof.RefValue
public import proofs.«01_k».proof.Proof.Frames

@[expose] public section

set_option maxRecDepth 16384

noncomputable section

namespace Cert.Walk

open Idealize.ShloMosaic Idealize.ShloMosaic.TcCoe Idealize.SL.Sem

/-- The scores of every row at every time, as one array. -/
def Given.result (G : Given) : Arr ⟨3, ![1024, 84, 27]⟩ := fun i => G.out (i 0) (i 1) (i 2)

/-- The kernel's last contents at the result array. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    at6 m ρ c (Proc.devRef .tc Cert.KernelIdeal.main_v11) = (given m c).result := by
  funext i
  idx_vars i
  exact result_at m ρ c _ _ _

/-- The reference's last contents at the result array. -/
theorem ref_result (m : (ℓ : Loc Cert.ReferenceIdeal.nD Cert.ReferenceIdeal.τ Cert.ReferenceIdeal.sig) → Buf (Elt Ideal) ℓ)
    (c : Dev Cert.ReferenceIdeal.nD) :
    WalkRef.ending m c (Proc.devRef .tc Cert.ReferenceIdeal.main_v31) = (WalkRef.given m c).result := by
  funext i
  idx_vars i
  exact WalkRef.result_at m c _ _ _

/-- From equal arguments the idealized kernel and the reference end with one result array, the arguments as launched. -/
theorem equation : Cert.algebraic_KernelIdeal_ReferenceIdeal := by
  intro m g m' g' _ hargs
  have hG : ∀ c, WalkRef.given m' c = given m c := fun c => by
    obtain ⟨h0, h1, h2, h3, h4, h5, h6, h7, h8, h9⟩ := hargs c
    unfold WalkRef.given given
    rw [h0, h1, h2, h3, h4, h5, h6, h7, h8, h9]
  refine ⟨fun c => (given m c).result, ?_, ?_⟩
  · exact (θ_run Cert.KernelIdeal.defs _ _).mono (fun r h c => ⟨((h.1 c).1).trans (kernel_result m g c), (h.1 c).2⟩) (run m g)
  · exact (θ_run Cert.ReferenceIdeal.defs _ _).mono
      (fun r h c => ⟨((h.1 c).1).trans ((ref_result m' c).trans (congrArg Given.result (hG c))), (h.1 c).2⟩) (WalkRef.run m' g')

end Cert.Walk

end
-- ==== Proof.lean ====
/- The claim about the walk kernel, assembled from the modules under `Proof/`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem

/-- The whole claim. -/
theorem claim : Cert.Claim := ⟨Cert.Kernel.Gen.facts, Cert.KernelIdeal.Gen.facts, Cert.ReferenceIdeal.Gen.facts,
  Cert.Walk.frame_kernel, Cert.Walk.frame_ideal, Cert.Walk.frame_ref, trivial, Cert.Walk.equation⟩

end Cert.Proof

end
